-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_attention_finite : Cert.Pre_attention_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ preserves_Kernel_KernelIdeal
    ∧ algebraic_KernelIdeal_ReferenceIdeal_pre_attention_finite (hKernelIdeal := hKernelIdeal) (hReferenceIdeal := hReferenceIdeal) (hPre_attention_finite := hPre_attention_finite)
-- ==== Pre_attention_finite.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S1x8x32 : Shape := ⟨3, ![1, 8, 32]⟩
abbrev S1024x256 : Shape := ⟨2, ![1024, 256]⟩
abbrev S1024 : Shape := ⟨1, ![1024]⟩
abbrev S256x1024 : Shape := ⟨2, ![256, 1024]⟩
abbrev S_ : Shape := ⟨0, ![]⟩

class Facts : Prop where
  bcast_S_S1x8x32 : S_.BroadcastsInDim S1x8x32 (![] : Fin 0 → Fin S1x8x32.rank)

variable [Facts]

def fn {F : FTy → Type} [FloatOps F] (main_arg0 : FVec F S10000x256 .f32) (main_arg1 : IVec S2x160000 32) (main_arg2 : FVec F S256 .f32) (main_arg3 : FVec F S256 .f32) (main_arg4 : FVec F S256x256 .f32) (main_arg5 : FVec F S1x8x32 .f32) (main_arg6 : FVec F S1x8x32 .f32) (main_arg7 : FVec F S256x256 .f32) (main_arg8 : FVec F S256 .f32) (main_arg9 : FVec F S256 .f32) (main_arg10 : FVec F S1024x256 .f32) (main_arg11 : FVec F S1024 .f32) (main_arg12 : FVec F S256x1024 .f32) (main_arg13 : FVec F S256 .f32) : IVec S1x8x32 1 × IVec S1x8x32 1 :=
  let main_v0 : FVec F S1x8x32 .f32 := Host.absf main_arg5
  let main_cst : FVec F S_ .f32 := constant S_ .f32 0x7F800000#32
  let main_v1 : FVec F S1x8x32 .f32 := broadcastInDim S1x8x32 ![] bcast_S_S1x8x32 main_cst
  let main_v2 : IVec S1x8x32 1 := cmpf .olt main_v0 main_v1
  let main_v3 : FVec F S1x8x32 .f32 := Host.absf main_arg6
  let main_cst_0 : FVec F S_ .f32 := constant S_ .f32 0x7F800000#32
  let main_v4 : FVec F S1x8x32 .f32 := broadcastInDim S1x8x32 ![] bcast_S_S1x8x32 main_cst_0
  let main_v5 : IVec S1x8x32 1 := cmpf .olt main_v3 main_v4
  (main_v2, main_v5)
-- ==== Kernel.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S1x8x32 : Shape := ⟨3, ![1, 8, 32]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S256x8 : Shape := ⟨2, ![256, 8]⟩
abbrev S256x1 : Shape := ⟨2, ![256, 1]⟩
abbrev S256x2 : Shape := ⟨2, ![256, 2]⟩
abbrev S10000x8 : Shape := ⟨2, ![10000, 8]⟩
abbrev S400x256 : Shape := ⟨2, ![400, 256]⟩
abbrev S400x8 : Shape := ⟨2, ![400, 8]⟩
abbrev S400 : Shape := ⟨1, ![400]⟩
abbrev S400x1 : Shape := ⟨2, ![400, 1]⟩
abbrev S1x256 : Shape := ⟨2, ![1, 256]⟩
abbrev S1x160000 : Shape := ⟨2, ![1, 160000]⟩
abbrev S160000 : Shape := ⟨1, ![160000]⟩
abbrev S160000x1 : Shape := ⟨2, ![160000, 1]⟩
abbrev S160000x8 : Shape := ⟨2, ![160000, 8]⟩
abbrev S160000x8x1 : Shape := ⟨3, ![160000, 8, 1]⟩
abbrev S10000x8x32 : Shape := ⟨3, ![10000, 8, 32]⟩
abbrev S160000x8x32 : Shape := ⟨3, ![160000, 8, 32]⟩
abbrev S400x1024 : Shape := ⟨2, ![400, 1024]⟩
abbrev S1x1024 : Shape := ⟨2, ![1, 1024]⟩

abbrev nBuf : Space → Nat
  | .hbm => 200
  | .vmem => 26
  | .smem => 0
  | _ => 0

abbrev hbmTy0_0 (i : Nat) : BufTy := match i % 128 with
  | 0 => ⟨S10000x256, .f32⟩
  | 1 => ⟨S2x160000, .i32⟩
  | 2 => ⟨S256, .f32⟩
  | 3 => ⟨S256, .f32⟩
  | 4 => ⟨S256x256, .f32⟩
  | 5 => ⟨S1x8x32, .f32⟩
  | 6 => ⟨S1x8x32, .f32⟩
  | 7 => ⟨S256x256, .f32⟩
  | 8 => ⟨S256, .f32⟩
  | 9 => ⟨S256, .f32⟩
  | 10 => ⟨S1024x256, .f32⟩
  | 11 => ⟨S1024, .f32⟩
  | 12 => ⟨S256x1024, .f32⟩
  | 13 => ⟨S256, .f32⟩
  | 14 => ⟨S_, .f32⟩
  | 15 => ⟨S256x8, .f32⟩
  | 16 => ⟨S_, .f32⟩
  | 17 => ⟨S256x8, .f32⟩
  | 18 => ⟨S256, .i32⟩
  | 19 => ⟨S_, .i32⟩
  | 20 => ⟨S_, .i32⟩
  | 21 => ⟨S256, .i32⟩
  | 22 => ⟨S256, .i32⟩
  | 23 => ⟨S256, .i32⟩
  | 24 => ⟨S_, .i32⟩
  | 25 => ⟨S256, .i32⟩
  | 26 => ⟨S256, .i1⟩
  | 27 => ⟨S256, .i32⟩
  | 28 => ⟨S256, .i32⟩
  | 29 => ⟨S_, .i32⟩
  | 30 => ⟨S256, .i32⟩
  | 31 => ⟨S256, .i1⟩
  | 32 => ⟨S256, .i1⟩
  | 33 => ⟨S_, .i32⟩
  | 34 => ⟨S256, .i32⟩
  | 35 => ⟨S256, .i32⟩
  | 36 => ⟨S256, .i32⟩
  | 37 => ⟨S256, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S256x1, .i32⟩
  | 54 => ⟨S256x2, .i32⟩
  | 55 => ⟨S256x8, .f32⟩
  | 56 => ⟨S256, .f32⟩
  | 57 => ⟨S_, .i32⟩
  | 58 => ⟨S256, .i32⟩
  | 59 => ⟨S256, .i1⟩
  | 60 => ⟨S_, .i32⟩
  | 61 => ⟨S256, .i32⟩
  | 62 => ⟨S256, .i32⟩
  | 63 => ⟨S256, .i32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S256x1, .i32⟩
  | 72 => ⟨S256x1, .i32⟩
  | 73 => ⟨S256x2, .i32⟩
  | 74 => ⟨S256x8, .f32⟩
  | 75 => ⟨S256x256, .f32⟩
  | 76 => ⟨S10000x256, .f32⟩
  | 77 => ⟨S10000x8, .f32⟩
  | 78 => ⟨S10000x8, .f32⟩
  | 79 => ⟨S1x160000, .i32⟩
  | 80 => ⟨S160000, .i32⟩
  | 81 => ⟨S1x160000, .i32⟩
  | 82 => ⟨S160000, .i32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x8, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x8, .f32⟩
  | 101 => ⟨S160000x8, .f32⟩
  | 102 => ⟨S_, .f32⟩
  | 103 => ⟨S160000x8, .f32⟩
  | 104 => ⟨S160000x8, .i1⟩
  | 105 => ⟨S_, .f32⟩
  | 106 => ⟨S160000x8, .f32⟩
  | 107 => ⟨S160000x8, .f32⟩
  | 108 => ⟨S160000x8, .f32⟩
  | 109 => ⟨S160000x8, .f32⟩
  | 110 => ⟨S_, .f32⟩
  | 111 => ⟨S10000x8, .f32⟩
  | 112 => ⟨S160000x1, .i32⟩
  | 113 => ⟨S10000x8, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x8, .f32⟩
  | 123 => ⟨S_, .f32⟩
  | 124 => ⟨S160000x8, .f32⟩
  | 125 => ⟨S160000x8, .f32⟩
  | 126 => ⟨S160000x8, .f32⟩
  | 127 => ⟨S160000x8x1, .f32⟩
  | _ => ⟨S10000x256, .f32⟩

abbrev hbmTy0_1 (i : Nat) : BufTy := match i % 128 with
  | 0 => ⟨S10000x8x32, .f32⟩
  | 1 => ⟨S_, .i32⟩
  | 2 => ⟨S160000, .i32⟩
  | 3 => ⟨S160000, .i1⟩
  | 4 => ⟨S_, .i32⟩
  | 5 => ⟨S160000, .i32⟩
  | 6 => ⟨S160000, .i32⟩
  | 7 => ⟨S160000, .i32⟩
  | 8 => ⟨S160000x1, .i32⟩
  | 9 => ⟨S160000x8x32, .f32⟩
  | 10 => ⟨S160000x8x32, .f32⟩
  | 11 => ⟨S160000x8x32, .f32⟩
  | 12 => ⟨S_, .f32⟩
  | 13 => ⟨S10000x8x32, .f32⟩
  | 14 => ⟨S160000x1, .i32⟩
  | 15 => ⟨S10000x8x32, .f32⟩
  | 16 => ⟨S_, .f32⟩
  | 17 => ⟨S10000x8x32, .f32⟩
  | 18 => ⟨S10000x8x32, .f32⟩
  | 19 => ⟨S_, .f32⟩
  | 20 => ⟨S10000x8x32, .f32⟩
  | 21 => ⟨S10000x8x32, .f32⟩
  | 22 => ⟨S10000x8x32, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000x8x32, .f32⟩
  | 32 => ⟨S160000x8x32, .f32⟩
  | 33 => ⟨S160000x8x32, .f32⟩
  | 34 => ⟨S_, .f32⟩
  | 35 => ⟨S10000x8x32, .f32⟩
  | 36 => ⟨S160000x1, .i32⟩
  | 37 => ⟨S10000x8x32, .f32⟩
  | 38 => ⟨S_, .f32⟩
  | 39 => ⟨S10000x8x32, .f32⟩
  | 40 => ⟨S10000x8x32, .f32⟩
  | 41 => ⟨S_, .f32⟩
  | 42 => ⟨S10000x8x32, .f32⟩
  | 43 => ⟨S10000x8x32, .f32⟩
  | 44 => ⟨S10000x8x32, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x8x32, .f32⟩
  | 54 => ⟨S160000x8x32, .f32⟩
  | 55 => ⟨S160000x8x32, .f32⟩
  | 56 => ⟨S_, .f32⟩
  | 57 => ⟨S10000x8x32, .f32⟩
  | 58 => ⟨S160000x1, .i32⟩
  | 59 => ⟨S10000x8x32, .f32⟩
  | 60 => ⟨S_, .f32⟩
  | 61 => ⟨S10000x8x32, .f32⟩
  | 62 => ⟨S10000x8x32, .f32⟩
  | 63 => ⟨S_, .f32⟩
  | 64 => ⟨S10000x8x32, .f32⟩
  | 65 => ⟨S10000x8x32, .f32⟩
  | 66 => ⟨S10000x8x32, .f32⟩
  | 67 => ⟨S10000x256, .f32⟩
  | 68 => ⟨S256x256, .f32⟩
  | 69 => ⟨S256x1024, .f32⟩
  | 70 => ⟨S1024x256, .f32⟩
  | 71 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S400x256, .f32⟩
  | .local _ .vmem, ⟨1, _⟩ => ⟨S400x256, .f32⟩
  | .local _ .vmem, ⟨2, _⟩ => ⟨S256, .f32⟩
  | .local _ .vmem, ⟨3, _⟩ => ⟨S256, .f32⟩
  | .local _ .vmem, ⟨4, _⟩ => ⟨S256x256, .f32⟩
  | .local _ .vmem, ⟨5, _⟩ => ⟨S256x8, .f32⟩
  | .local _ .vmem, ⟨6, _⟩ => ⟨S256x8, .f32⟩
  | .local _ .vmem, ⟨7, _⟩ => ⟨S400x256, .f32⟩
  | .local _ .vmem, ⟨8, _⟩ => ⟨S400x256, .f32⟩
  | .local _ .vmem, ⟨9, _⟩ => ⟨S400x8, .f32⟩
  | .local _ .vmem, ⟨10, _⟩ => ⟨S400x8, .f32⟩
  | .local _ .vmem, ⟨11, _⟩ => ⟨S400x8, .f32⟩
  | .local _ .vmem, ⟨12, _⟩ => ⟨S400x8, .f32⟩
  | .local _ .vmem, ⟨13, _⟩ => ⟨S400x256, .f32⟩
  | .local _ .vmem, ⟨14, _⟩ => ⟨S400x256, .f32⟩
  | .local _ .vmem, ⟨15, _⟩ => ⟨S400x256, .f32⟩
  | .local _ .vmem, ⟨16, _⟩ => ⟨S400x256, .f32⟩
  | .local _ .vmem, ⟨17, _⟩ => ⟨S256x256, .f32⟩
  | .local _ .vmem, ⟨18, _⟩ => ⟨S256, .f32⟩
  | .local _ .vmem, ⟨19, _⟩ => ⟨S256, .f32⟩
  | .local _ .vmem, ⟨20, _⟩ => ⟨S256x1024, .f32⟩
  | .local _ .vmem, ⟨21, _⟩ => ⟨S1024, .f32⟩
  | .local _ .vmem, ⟨22, _⟩ => ⟨S1024x256, .f32⟩
  | .local _ .vmem, ⟨23, _⟩ => ⟨S256, .f32⟩
  | .local _ .vmem, ⟨24, _⟩ => ⟨S400x256, .f32⟩
  | .local _ .vmem, ⟨25, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v3 : Ref sig .tc := ⟨.hbm, 36, rfl⟩
abbrev main_v4 : Ref sig .tc := ⟨.hbm, 37, rfl⟩
abbrev main_c_1 : Ref sig .tc := ⟨.hbm, 38, rfl⟩
abbrev main_v5 : Ref sig .tc := ⟨.hbm, 39, rfl⟩
abbrev main_v6 : Ref sig .tc := ⟨.hbm, 40, rfl⟩
abbrev main_c_2 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_c_3 : Ref sig .tc := ⟨.hbm, 45, rfl⟩
abbrev main_v10 : Ref sig .tc := ⟨.hbm, 46, rfl⟩
abbrev main_v11 : Ref sig .tc := ⟨.hbm, 47, rfl⟩
abbrev main_c_4 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c_5 : Ref sig .tc := ⟨.hbm, 57, rfl⟩
abbrev main_v20 : Ref sig .tc := ⟨.hbm, 58, rfl⟩
abbrev main_v21 : Ref sig .tc := ⟨.hbm, 59, rfl⟩
abbrev main_c_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_7 : Ref sig .tc := ⟨.hbm, 64, rfl⟩
abbrev main_v25 : Ref sig .tc := ⟨.hbm, 65, rfl⟩
abbrev main_v26 : Ref sig .tc := ⟨.hbm, 66, rfl⟩
abbrev main_c_8 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35_0 : Ref sig .tc := ⟨.hbm, 76, rfl⟩
abbrev main_v35_1 : Ref sig .tc := ⟨.hbm, 77, rfl⟩
abbrev main_v35_2 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_9 : Ref sig .tc := ⟨.hbm, 83, rfl⟩
abbrev main_v40 : Ref sig .tc := ⟨.hbm, 84, rfl⟩
abbrev main_v41 : Ref sig .tc := ⟨.hbm, 85, rfl⟩
abbrev main_c_10 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_11 : Ref sig .tc := ⟨.hbm, 92, rfl⟩
abbrev main_v47 : Ref sig .tc := ⟨.hbm, 93, rfl⟩
abbrev main_v48 : Ref sig .tc := ⟨.hbm, 94, rfl⟩
abbrev main_c_12 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_13 : Ref sig .tc := ⟨.hbm, 102, rfl⟩
abbrev main_v55 : Ref sig .tc := ⟨.hbm, 103, rfl⟩
abbrev main_v56 : Ref sig .tc := ⟨.hbm, 104, rfl⟩
abbrev main_cst_14 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_15 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_16 : Ref sig .tc := ⟨.hbm, 114, rfl⟩
abbrev main_v64 : Ref sig .tc := ⟨.hbm, 115, rfl⟩
abbrev main_v65 : Ref sig .tc := ⟨.hbm, 116, rfl⟩
abbrev main_c_17 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_18 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_19 : Ref sig .tc := ⟨.hbm, 129, rfl⟩
abbrev main_v76 : Ref sig .tc := ⟨.hbm, 130, rfl⟩
abbrev main_v77 : Ref sig .tc := ⟨.hbm, 131, rfl⟩
abbrev main_c_20 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_21 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_22 : Ref sig .tc := ⟨.hbm, 144, rfl⟩
abbrev main_v88 : Ref sig .tc := ⟨.hbm, 145, rfl⟩
abbrev main_v89 : Ref sig .tc := ⟨.hbm, 146, rfl⟩
abbrev main_cst_23 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_24 : Ref sig .tc := ⟨.hbm, 151, rfl⟩
abbrev main_v93 : Ref sig .tc := ⟨.hbm, 152, rfl⟩
abbrev main_v94 : Ref sig .tc := ⟨.hbm, 153, rfl⟩
abbrev main_c_25 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_26 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_27 : Ref sig .tc := ⟨.hbm, 166, rfl⟩
abbrev main_v105 : Ref sig .tc := ⟨.hbm, 167, rfl⟩
abbrev main_v106 : Ref sig .tc := ⟨.hbm, 168, rfl⟩
abbrev main_cst_28 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_c_29 : Ref sig .tc := ⟨.hbm, 173, rfl⟩
abbrev main_v110 : Ref sig .tc := ⟨.hbm, 174, rfl⟩
abbrev main_v111 : Ref sig .tc := ⟨.hbm, 175, rfl⟩
abbrev main_c_30 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_31 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_32 : Ref sig .tc := ⟨.hbm, 188, rfl⟩
abbrev main_v122 : Ref sig .tc := ⟨.hbm, 189, rfl⟩
abbrev main_v123 : Ref sig .tc := ⟨.hbm, 190, rfl⟩
abbrev main_cst_33 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S1x8x32 : Shape := ⟨3, ![1, 8, 32]⟩
abbrev S1024x256 : Shape := ⟨2, ![1024, 256]⟩
abbrev S1024 : Shape := ⟨1, ![1024]⟩
abbrev S256x1024 : Shape := ⟨2, ![256, 1024]⟩
abbrev S1x160000 : Shape := ⟨2, ![1, 160000]⟩
abbrev S160000 : Shape := ⟨1, ![160000]⟩
abbrev S_ : Shape := ⟨0, ![]⟩
abbrev S10000 : Shape := ⟨1, ![10000]⟩
abbrev S10000x1 : Shape := ⟨2, ![10000, 1]⟩
abbrev S1x256 : Shape := ⟨2, ![1, 256]⟩
abbrev S10000x8x32 : Shape := ⟨3, ![10000, 8, 32]⟩
abbrev S10000x8 : Shape := ⟨2, ![10000, 8]⟩
abbrev S10000x8x1 : Shape := ⟨3, ![10000, 8, 1]⟩
abbrev S160000x1 : Shape := ⟨2, ![160000, 1]⟩
abbrev S160000x8x1 : Shape := ⟨3, ![160000, 8, 1]⟩
abbrev S10000x160000 : Shape := ⟨2, ![10000, 160000]⟩
abbrev S10000x160000x1x1 : Shape := ⟨4, ![10000, 160000, 1, 1]⟩
abbrev S1x160000x8x1 : Shape := ⟨4, ![1, 160000, 8, 1]⟩
abbrev S10000x160000x8x1 : Shape := ⟨4, ![10000, 160000, 8, 1]⟩
abbrev S160000x8x32 : Shape := ⟨3, ![160000, 8, 32]⟩
abbrev S10000x1024 : Shape := ⟨2, ![10000, 1024]⟩
abbrev S1x1024 : Shape := ⟨2, ![1, 1024]⟩

abbrev nBuf : Space → Nat
  | .hbm => 256
  | .vmem => 0
  | .smem => 0
  | _ => 0

abbrev hbmTy0_0 (i : Nat) : BufTy := match i % 128 with
  | 0 => ⟨S10000x256, .f32⟩
  | 1 => ⟨S2x160000, .i32⟩
  | 2 => ⟨S256, .f32⟩
  | 3 => ⟨S256, .f32⟩
  | 4 => ⟨S256x256, .f32⟩
  | 5 => ⟨S1x8x32, .f32⟩
  | 6 => ⟨S1x8x32, .f32⟩
  | 7 => ⟨S256x256, .f32⟩
  | 8 => ⟨S256, .f32⟩
  | 9 => ⟨S256, .f32⟩
  | 10 => ⟨S1024x256, .f32⟩
  | 11 => ⟨S1024, .f32⟩
  | 12 => ⟨S256x1024, .f32⟩
  | 13 => ⟨S256, .f32⟩
  | 14 => ⟨S1x160000, .i32⟩
  | 15 => ⟨S160000, .i32⟩
  | 16 => ⟨S1x160000, .i32⟩
  | 17 => ⟨S160000, .i32⟩
  | 18 => ⟨S_, .f32⟩
  | 19 => ⟨S10000, .f32⟩
  | 20 => ⟨S10000x1, .f32⟩
  | 21 => ⟨S_, .f32⟩
  | 22 => ⟨S10000x1, .f32⟩
  | 23 => ⟨S10000x1, .f32⟩
  | 24 => ⟨S10000x256, .f32⟩
  | 25 => ⟨S10000x256, .f32⟩
  | 26 => ⟨S10000x256, .f32⟩
  | 27 => ⟨S_, .f32⟩
  | 28 => ⟨S10000, .f32⟩
  | 29 => ⟨S10000x1, .f32⟩
  | 30 => ⟨S_, .f32⟩
  | 31 => ⟨S10000x1, .f32⟩
  | 32 => ⟨S10000x1, .f32⟩
  | 33 => ⟨S10000x256, .f32⟩
  | 34 => ⟨S10000x256, .f32⟩
  | 35 => ⟨S_, .f32⟩
  | 36 => ⟨S10000x1, .f32⟩
  | 37 => ⟨S10000x1, .f32⟩
  | 38 => ⟨S10000x1, .f32⟩
  | 39 => ⟨S10000x256, .f32⟩
  | 40 => ⟨S10000x256, .f32⟩
  | 41 => ⟨S1x256, .f32⟩
  | 42 => ⟨S10000x256, .f32⟩
  | 43 => ⟨S10000x256, .f32⟩
  | 44 => ⟨S1x256, .f32⟩
  | 45 => ⟨S10000x256, .f32⟩
  | 46 => ⟨S10000x256, .f32⟩
  | 47 => ⟨S256x256, .f32⟩
  | 48 => ⟨S10000x256, .f32⟩
  | 49 => ⟨S10000x8x32, .f32⟩
  | 50 => ⟨S10000x8x32, .f32⟩
  | 51 => ⟨S10000x8x32, .f32⟩
  | 52 => ⟨S10000x8x32, .f32⟩
  | 53 => ⟨S_, .f32⟩
  | 54 => ⟨S10000x8, .f32⟩
  | 55 => ⟨S10000x8x1, .f32⟩
  | 56 => ⟨S10000x8x32, .f32⟩
  | 57 => ⟨S10000x8x32, .f32⟩
  | 58 => ⟨S_, .f32⟩
  | 59 => ⟨S10000x8, .f32⟩
  | 60 => ⟨S10000x8x1, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x8x1, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x8x1, .f32⟩
  | 79 => ⟨S160000x8x1, .f32⟩
  | 80 => ⟨S_, .f32⟩
  | 81 => ⟨S160000x8x1, .f32⟩
  | 82 => ⟨S160000x8x1, .i1⟩
  | 83 => ⟨S_, .f32⟩
  | 84 => ⟨S160000x8x1, .f32⟩
  | 85 => ⟨S160000x8x1, .f32⟩
  | 86 => ⟨S160000x8x1, .f32⟩
  | 87 => ⟨S1x160000, .i32⟩
  | 88 => ⟨S10000, .i32⟩
  | 89 => ⟨S10000x1, .i32⟩
  | 90 => ⟨S10000x160000, .i32⟩
  | 91 => ⟨S10000x160000, .i32⟩
  | 92 => ⟨S10000x160000, .i1⟩
  | 93 => ⟨S10000x160000x1x1, .i1⟩
  | 94 => ⟨S1x160000x8x1, .f32⟩
  | 95 => ⟨S_, .f32⟩
  | 96 => ⟨S_, .f32⟩
  | 97 => ⟨S10000x160000x8x1, .i1⟩
  | 98 => ⟨S10000x160000x8x1, .f32⟩
  | 99 => ⟨S10000x160000x8x1, .f32⟩
  | 100 => ⟨S10000x160000x8x1, .f32⟩
  | 101 => ⟨S_, .f32⟩
  | 102 => ⟨S10000x8x1, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x8x1, .f32⟩
  | 112 => ⟨S160000x8x1, .f32⟩
  | 113 => ⟨S160000x8x1, .f32⟩
  | 114 => ⟨S_, .f32⟩
  | 115 => ⟨S10000x8x1, .f32⟩
  | 116 => ⟨S160000x1, .i32⟩
  | 117 => ⟨S10000x8x1, .f32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x8x1, .f32⟩
  | 127 => ⟨S_, .i32⟩
  | _ => ⟨S10000x256, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x8x1, .f32⟩
  | 8 => ⟨S160000x8x1, .f32⟩
  | 9 => ⟨S160000x8x1, .f32⟩
  | 10 => ⟨S_, .f32⟩
  | 11 => ⟨S160000x8x1, .f32⟩
  | 12 => ⟨S160000x8x1, .f32⟩
  | 13 => ⟨S160000x8x1, .f32⟩
  | 14 => ⟨S160000x8x1, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x8x32, .f32⟩
  | 24 => ⟨S160000x8x32, .f32⟩
  | 25 => ⟨S160000x8x32, .f32⟩
  | 26 => ⟨S_, .f32⟩
  | 27 => ⟨S10000x8x32, .f32⟩
  | 28 => ⟨S160000x1, .i32⟩
  | 29 => ⟨S10000x8x32, .f32⟩
  | 30 => ⟨S_, .f32⟩
  | 31 => ⟨S10000x8x32, .f32⟩
  | 32 => ⟨S10000x8x32, .f32⟩
  | 33 => ⟨S_, .f32⟩
  | 34 => ⟨S10000x8x32, .f32⟩
  | 35 => ⟨S10000x8x32, .f32⟩
  | 36 => ⟨S10000x8x32, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x8x32, .f32⟩
  | 46 => ⟨S160000x8x32, .f32⟩
  | 47 => ⟨S160000x8x32, .f32⟩
  | 48 => ⟨S_, .f32⟩
  | 49 => ⟨S10000x8x32, .f32⟩
  | 50 => ⟨S160000x1, .i32⟩
  | 51 => ⟨S10000x8x32, .f32⟩
  | 52 => ⟨S_, .f32⟩
  | 53 => ⟨S10000x8x32, .f32⟩
  | 54 => ⟨S10000x8x32, .f32⟩
  | 55 => ⟨S_, .f32⟩
  | 56 => ⟨S10000x8x32, .f32⟩
  | 57 => ⟨S10000x8x32, .f32⟩
  | 58 => ⟨S10000x8x32, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x8x32, .f32⟩
  | 68 => ⟨S160000x8x32, .f32⟩
  | 69 => ⟨S160000x8x32, .f32⟩
  | 70 => ⟨S_, .f32⟩
  | 71 => ⟨S10000x8x32, .f32⟩
  | 72 => ⟨S160000x1, .i32⟩
  | 73 => ⟨S10000x8x32, .f32⟩
  | 74 => ⟨S_, .f32⟩
  | 75 => ⟨S10000x8x32, .f32⟩
  | 76 => ⟨S10000x8x32, .f32⟩
  | 77 => ⟨S_, .f32⟩
  | 78 => ⟨S10000x8x32, .f32⟩
  | 79 => ⟨S10000x8x32, .f32⟩
  | 80 => ⟨S10000x8x32, .f32⟩
  | 81 => ⟨S10000x256, .f32⟩
  | 82 => ⟨S256x256, .f32⟩
  | 83 => ⟨S10000x256, .f32⟩
  | 84 => ⟨S10000x256, .f32⟩
  | 85 => ⟨S_, .f32⟩
  | 86 => ⟨S10000, .f32⟩
  | 87 => ⟨S10000x1, .f32⟩
  | 88 => ⟨S_, .f32⟩
  | 89 => ⟨S10000x1, .f32⟩
  | 90 => ⟨S10000x1, .f32⟩
  | 91 => ⟨S10000x256, .f32⟩
  | 92 => ⟨S10000x256, .f32⟩
  | 93 => ⟨S10000x256, .f32⟩
  | 94 => ⟨S_, .f32⟩
  | 95 => ⟨S10000, .f32⟩
  | 96 => ⟨S10000x1, .f32⟩
  | 97 => ⟨S_, .f32⟩
  | 98 => ⟨S10000x1, .f32⟩
  | 99 => ⟨S10000x1, .f32⟩
  | 100 => ⟨S10000x256, .f32⟩
  | 101 => ⟨S10000x256, .f32⟩
  | 102 => ⟨S_, .f32⟩
  | 103 => ⟨S10000x1, .f32⟩
  | 104 => ⟨S10000x1, .f32⟩
  | 105 => ⟨S10000x1, .f32⟩
  | 106 => ⟨S10000x256, .f32⟩
  | 107 => ⟨S10000x256, .f32⟩
  | 108 => ⟨S1x256, .f32⟩
  | 109 => ⟨S10000x256, .f32⟩
  | 110 => ⟨S10000x256, .f32⟩
  | 111 => ⟨S1x256, .f32⟩
  | 112 => ⟨S10000x256, .f32⟩
  | 113 => ⟨S10000x256, .f32⟩
  | 114 => ⟨S256x1024, .f32⟩
  | 115 => ⟨S10000x1024, .f32⟩
  | 116 => ⟨S1x1024, .f32⟩
  | 117 => ⟨S10000x1024, .f32⟩
  | 118 => ⟨S10000x1024, .f32⟩
  | 119 => ⟨S_, .f32⟩
  | 120 => ⟨S10000x1024, .f32⟩
  | 121 => ⟨S10000x1024, .f32⟩
  | 122 => ⟨S1024x256, .f32⟩
  | 123 => ⟨S10000x256, .f32⟩
  | 124 => ⟨S1x256, .f32⟩
  | 125 => ⟨S10000x256, .f32⟩
  | 126 => ⟨S10000x256, .f32⟩
  | 127 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_23 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_24 : Ref sig .tc := ⟨.hbm, 158, rfl⟩
abbrev main_v114 : Ref sig .tc := ⟨.hbm, 159, rfl⟩
abbrev main_v115 : Ref sig .tc := ⟨.hbm, 160, rfl⟩
abbrev main_cst_25 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_26 : Ref sig .tc := ⟨.hbm, 165, rfl⟩
abbrev main_v119 : Ref sig .tc := ⟨.hbm, 166, rfl⟩
abbrev main_v120 : Ref sig .tc := ⟨.hbm, 167, rfl⟩
abbrev main_c_27 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_28 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_29 : Ref sig .tc := ⟨.hbm, 180, rfl⟩
abbrev main_v131 : Ref sig .tc := ⟨.hbm, 181, rfl⟩
abbrev main_v132 : Ref sig .tc := ⟨.hbm, 182, rfl⟩
abbrev main_cst_30 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_31 : Ref sig .tc := ⟨.hbm, 187, rfl⟩
abbrev main_v136 : Ref sig .tc := ⟨.hbm, 188, rfl⟩
abbrev main_v137 : Ref sig .tc := ⟨.hbm, 189, rfl⟩
abbrev main_c_32 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_33 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_34 : Ref sig .tc := ⟨.hbm, 202, rfl⟩
abbrev main_v148 : Ref sig .tc := ⟨.hbm, 203, rfl⟩
abbrev main_v149 : Ref sig .tc := ⟨.hbm, 204, rfl⟩
abbrev main_cst_35 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_36 : Ref sig .tc := ⟨.hbm, 213, rfl⟩
abbrev main_v157 : Ref sig .tc := ⟨.hbm, 214, rfl⟩
abbrev main_v158 : Ref sig .tc := ⟨.hbm, 215, rfl⟩
abbrev main_cst_37 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_38 : Ref sig .tc := ⟨.hbm, 222, rfl⟩
abbrev main_v164 : Ref sig .tc := ⟨.hbm, 223, rfl⟩
abbrev main_v165 : Ref sig .tc := ⟨.hbm, 224, rfl⟩
abbrev main_cst_39 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_40 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_cst_41 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩

abbrev nD : Nat := 1
abbrev τ : Topo := Topo.v7x

variable {F : FTy → Type} [FloatOps F]
-- ==== Proof.KernelRun.lean ====
/- The kernel's program run: the frame's launch set-up, read also at the result. The result array ends as the boundary
   contents after the last region say, and the arguments end as launched. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program from a memory with zero counters ends with the result array at the boundary contents
    after the last region and the arguments as launched. -/
theorem run : θ_run defs (onTc (τ := τ) (main (F := F))) ⟨m, fun _ => 0, ρ⟩ (fun r => (∀ c : Dev nD,
      r.2.mem ((c.tc : Thread nD τ).loc main_v131) = W8 m ρ c main_v131
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v131 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩), funext fun g => hz g (.inr (no_unscoped g.2))⟩)

end Cert.KernelIdeal.Val

end
-- ==== Proof.Math.lean ====
/- The arithmetic of the extended reals that the certificate rests on: the row functions both programs compute (layer
   norm, projection, feed-forward) and the identity between the two spellings of the edge softmax. -/
module

public import Idealize.ShloMosaic.PureOps.Ideal
public import Idealize.ShloMosaic.PureOps.Ideal.Laws

@[expose] public section

noncomputable section

namespace Cert.Math

open Idealize.ShloMosaic

/-! ## Constants -/

/-- The row length 256, as both programs spell it. -/
abbrev c256 : EReal := Ideal.ofBits .f32 0x43800000#32
/-- Layer norm's epsilon. -/
abbrev cEps : EReal := Ideal.ofBits .f32 0x3727C5AC#32
/-- The softmax's guard. -/
abbrev cGuard : EReal := Ideal.ofBits .f32 0x24E69595#32
/-- The leaky slope. -/
abbrev cSlope : EReal := Ideal.ofBits .f32 0x3E4CCCCD#32

theorem c256_eq : c256 = ((256 : ℝ) : EReal) := by
  simp only [c256, Ideal.ofBits, Ideal.ieee]
  norm_num [BitVec.extractLsb', BitVec.toNat, Nat.shiftRight_eq_div_pow]

/-- Layer norm's epsilon is a positive real. -/
theorem cEps_pos : ∃ r : ℝ, 0 < r ∧ cEps = (r : EReal) := by
  simp only [cEps, Ideal.ofBits, Ideal.ieee]
  norm_num [BitVec.extractLsb', BitVec.toNat, Nat.shiftRight_eq_div_pow]

/-- The guard is a positive real. -/
theorem cGuard_pos : ∃ r : ℝ, 0 < r ∧ cGuard = (r : EReal) := by
  simp only [cGuard, Ideal.ofBits, Ideal.ieee]
  norm_num [BitVec.extractLsb', BitVec.toNat, Nat.shiftRight_eq_div_pow]

/-- The leaky slope is a real. -/
theorem cSlope_real : ∃ r : ℝ, cSlope = (r : EReal) := by
  simp only [cSlope, Ideal.ofBits, Ideal.ieee]
  norm_num [BitVec.extractLsb', BitVec.toNat, Nat.shiftRight_eq_div_pow]

/-- The pattern of minus infinity denotes the bottom. -/
theorem ofBits_neg_inf : Ideal.ofBits .f32 0xFF800000#32 = ⊥ := by
  simp only [Ideal.ofBits, Ideal.ieee]
  norm_num [BitVec.extractLsb', BitVec.toNat, Nat.shiftRight_eq_div_pow]

/-- The pattern of infinity denotes the top. -/
theorem ofBits_inf : Ideal.ofBits .f32 0x7F800000#32 = ⊤ := by
  simp only [Ideal.ofBits, Ideal.ieee]
  norm_num [BitVec.extractLsb', BitVec.toNat, Nat.shiftRight_eq_div_pow]

/-! ## Layer norm -/

/-- Division by a root is multiplication by the reciprocal root, above zero. -/
theorem div_sqrt {v : EReal} (hv : 0 < v) (d : EReal) : Ideal.div d (Ideal.sqrt v) = d * Ideal.rsqrt v := by
  induction v with
  | bot => exact absurd hv (by simp)
  | top =>
    have e1 : Ideal.sqrt ⊤ = ⊤ := rfl
    have e2 : Ideal.rsqrt ⊤ = 0 := rfl
    rw [e1, e2]
    simp [Ideal.div]
  | coe r =>
    have hr : 0 < r := by exact_mod_cast hv
    have hs : Real.sqrt r ≠ 0 := (Real.sqrt_pos.2 hr).ne'
    have e1 : Ideal.sqrt (r : EReal) = ((Real.sqrt r : ℝ) : EReal) :=
      show (if r < 0 then (⊥ : EReal) else (Real.sqrt r : ℝ)) = _ by rw [if_neg (not_lt.2 hr.le)]
    have e2 : Ideal.rsqrt (r : EReal) = (((Real.sqrt r)⁻¹ : ℝ) : EReal) :=
      show (if r < 0 then (⊥ : EReal) else if r = 0 then ⊤ else ((Real.sqrt r)⁻¹ : ℝ)) = _ by
        rw [if_neg (not_lt.2 hr.le), if_neg hr.ne']
    rw [e1, e2, Ideal.div_coe hs, one_div]

/-- A square is not negative. -/
theorem mul_self_nonneg (x : EReal) : 0 ≤ x * x := by
  rcases le_total 0 x with h | h
  · exact mul_nonneg h h
  · have := mul_nonneg (EReal.neg_nonneg.2 h) (EReal.neg_nonneg.2 h)
    rwa [neg_mul_neg] at this

/-- The mean of a row. -/
def rowMean (x : Fin 256 → EReal) : EReal := Ideal.div (∑ k, x k) c256
/-- The variance of a row. -/
def rowVar (x : Fin 256 → EReal) : EReal := Ideal.div (∑ k, (x k - rowMean x) * (x k - rowMean x)) c256
/-- Layer norm of a row, with the reciprocal root. -/
def lnRow (x g b : Fin 256 → EReal) (c : Fin 256) : EReal :=
  (x c - rowMean x) * Ideal.rsqrt (rowVar x + cEps) * g c + b c

/-- The variance plus epsilon is positive. -/
theorem rowVar_pos (x : Fin 256 → EReal) : 0 < rowVar x + cEps := by
  obtain ⟨e, he, hE⟩ := cEps_pos
  have h0 : 0 ≤ rowVar x := by
    unfold rowVar
    rw [c256_eq, Ideal.div_coe (by norm_num)]
    exact mul_nonneg (Finset.sum_nonneg fun k _ => mul_self_nonneg _) (by exact_mod_cast (by norm_num : (0 : ℝ) ≤ 1 / 256))
  rw [hE]
  have h1 : (0 : EReal) < (e : EReal) := by exact_mod_cast he
  calc (0 : EReal) < (e : EReal) := h1
    _ = 0 + (e : EReal) := (zero_add _).symm
    _ ≤ _ := by gcongr

/-- Layer norm with a division by the root is the same row. -/
theorem lnRow_div (x g b : Fin 256 → EReal) (c : Fin 256) :
    Ideal.div (x c - rowMean x) (Ideal.sqrt (rowVar x + cEps)) * g c + b c = lnRow x g b c := by
  rw [div_sqrt (rowVar_pos x), lnRow]

/-- The projected row: layer norm times a matrix. -/
def featRow (x g b : Fin 256 → EReal) (w : Fin 256 → Fin 256 → EReal) (c : Fin 256) : EReal :=
  ∑ k, lnRow x g b k * w k c

/-- The row after the output projection and the residual. -/
def resRow (f x : Fin 256 → EReal) (wo : Fin 256 → Fin 256 → EReal) (c : Fin 256) : EReal :=
  (∑ k, f k * wo k c) + x c

/-- The hidden row of the feed-forward. -/
def hidRow (r g b : Fin 256 → EReal) (w1 : Fin 256 → Fin 1024 → EReal) (b1 : Fin 1024 → EReal) (j : Fin 1024) : EReal :=
  max ((∑ k, lnRow r g b k * w1 k j) + b1 j) 0

/-- The finished row. -/
def outRow (f x : Fin 256 → EReal) (wo : Fin 256 → Fin 256 → EReal) (g b : Fin 256 → EReal)
    (w1 : Fin 256 → Fin 1024 → EReal) (b1 : Fin 1024 → EReal) (w2 : Fin 1024 → Fin 256 → EReal) (b2 : Fin 256 → EReal)
    (c : Fin 256) : EReal :=
  resRow f x wo c + (∑ j, hidRow (resRow f x wo) g b w1 b1 j * w2 j c) + b2 c

/-! ## Finite values -/

/-- A hyperbolic tangent is a real. -/
theorem tanh_real (x : EReal) : ∃ r : ℝ, Ideal.tanh x = (r : EReal) := by
  induction x with
  | bot => exact ⟨-1, show (-1 : EReal) = _ by simp⟩
  | top => exact ⟨1, show (1 : EReal) = _ by simp⟩
  | coe r => exact ⟨Real.tanh r, rfl⟩

/-- A value whose absolute value is below the top is a real. -/
theorem real_of_abs_lt {x : EReal} (h : max x (-x) < ⊤) : ∃ r : ℝ, x = (r : EReal) := by
  induction x with
  | bot => simp at h
  | top => simp at h
  | coe r => exact ⟨r, rfl⟩

/-- A sum of reals is a real. -/
theorem sum_real {ι : Type*} (s : Finset ι) (f : ι → EReal) (h : ∀ i, ∃ r : ℝ, f i = (r : EReal)) :
    ∃ r : ℝ, ∑ i ∈ s, f i = (r : EReal) := by
  choose g hg using h
  refine ⟨∑ i ∈ s, g i, ?_⟩
  rw [Finset.sum_congr rfl fun i _ => hg i]
  induction s using Finset.cons_induction with
  | empty => simp
  | cons a s ha ih => rw [Finset.sum_cons, Finset.sum_cons, ih, EReal.coe_add]

/-- The coercion of a sum. -/
theorem coe_sum {ι : Type*} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

/-! ## The edge softmax -/

/-- The two spellings of one edge's weight: the exponential of the score over the guarded sum of exponentials, and the
    same with every exponential shifted by a real `m` and the guard scaled by `exp (-m)`. -/
theorem softmax_shift {ι : Type*} (s : Finset ι) (e : ι → EReal) (he : ∀ i, ∃ r : ℝ, e i = (r : EReal)) (k : ι)
    (m : EReal) (hm : ∃ r : ℝ, m = (r : EReal)) :
    Ideal.div (Ideal.exp (e k - m)) ((∑ i ∈ s, Ideal.exp (e i - m)) + cGuard * Ideal.exp (-m))
      = Ideal.div (Ideal.exp (e k)) ((∑ i ∈ s, Ideal.exp (e i)) + cGuard) := by
  obtain ⟨m, rfl⟩ := hm
  obtain ⟨g, hg, hG⟩ := cGuard_pos
  choose r hr using he
  obtain rfl : e = fun i => (r i : EReal) := funext hr
  rw [hG]
  have e1 : ∀ i, Ideal.exp ((r i : EReal) - (m : EReal)) = ((Real.exp (r i - m) : ℝ) : EReal) := fun i => by
    rw [← EReal.coe_sub]; rfl
  have e2 : ∀ i, Ideal.exp (r i : EReal) = ((Real.exp (r i) : ℝ) : EReal) := fun i => rfl
  have e3 : Ideal.exp (-(m : EReal)) = ((Real.exp (-m) : ℝ) : EReal) := by rw [← EReal.coe_neg]; rfl
  simp only [e1, e2, e3]
  rw [← coe_sum, ← coe_sum, ← EReal.coe_mul, ← EReal.coe_add, ← EReal.coe_add]
  have p1 : 0 < ∑ i ∈ s, Real.exp (r i - m) + g * Real.exp (-m) :=
    add_pos_of_nonneg_of_pos (Finset.sum_nonneg fun i _ => (Real.exp_pos _).le) (mul_pos hg (Real.exp_pos _))
  have p2 : 0 < ∑ i ∈ s, Real.exp (r i) + g :=
    add_pos_of_nonneg_of_pos (Finset.sum_nonneg fun i _ => (Real.exp_pos _).le) hg
  rw [Ideal.div_coe p1.ne', Ideal.div_coe p2.ne', ← EReal.coe_mul, ← EReal.coe_mul]
  congr 1
  have q : ∑ i ∈ s, Real.exp (r i - m) + g * Real.exp (-m) = (∑ i ∈ s, Real.exp (r i) + g) * Real.exp (-m) := by
    rw [add_mul, Finset.sum_mul]
    simp only [sub_eq_add_neg, Real.exp_add]
  rw [q, sub_eq_add_neg, Real.exp_add]
  have := Real.exp_pos (-m)
  field_simp

/-! ## The maximum of an arrival list -/

/-- The larger of two values below the top is below the top. -/
theorem max_ne_top {x y : EReal} (hx : x ≠ ⊤) (hy : y ≠ ⊤) : max x y ≠ ⊤ := by
  rcases max_choice x y with e | e <;> rw [e]
  exacts [hx, hy]

/-- Folding the maximum over a list of values below the top, from a start below the top, stays below the top. -/
theorem foldl_max_ne_top {ι : Type*} (l : List ι) (f : ι → EReal) (h : ∀ i, f i ≠ ⊤) (a : EReal) (ha : a ≠ ⊤) :
    l.foldl (fun r i => max r (f i)) a ≠ ⊤ := by
  induction l generalizing a with
  | nil => exact ha
  | cons i l ih => exact ih _ (max_ne_top ha (h i))

/-- The fold of the maximum is at least its start and at least each value. -/
theorem le_foldl_max {ι : Type*} (l : List ι) (f : ι → EReal) (a : EReal) :
    a ≤ l.foldl (fun r i => max r (f i)) a ∧ ∀ i ∈ l, f i ≤ l.foldl (fun r i => max r (f i)) a := by
  induction l generalizing a with
  | nil => exact ⟨le_rfl, fun i hi => absurd hi List.not_mem_nil⟩
  | cons i l ih =>
    obtain ⟨h1, h2⟩ := ih (max a (f i))
    refine ⟨(le_max_left _ _).trans h1, fun j hj => ?_⟩
    rcases List.mem_cons.1 hj with rfl | hj
    · exact (le_max_right _ _).trans h1
    · exact h2 j hj

/-- A value that is neither infinity is a real. -/
theorem real_of_ne {x : EReal} (h1 : x ≠ ⊥) (h2 : x ≠ ⊤) : ∃ r : ℝ, x = (r : EReal) := ⟨x.toReal, (EReal.coe_toReal h2 h1).symm⟩

end Cert.Math

end
-- ==== Proof.Payload.lean ====
/- What the two kernel bodies compute from their blocks, row by row: the projected block, the two score blocks, and the
   finished block, in terms of the row functions of `Cert.Math`. -/
module

public import proofs.«01_k».proof.Proof.Gen.KernelIdeal.Skeleton
public import proofs.«01_k».proof.Proof.Math
public import Idealize.ShloMosaic.Lib.ValueIdx
public import Idealize.ShloMosaic.Lib.MatmulPlain
public import Idealize.ShloMosaic.Lib.Pipeline.Value

@[expose] public section

noncomputable section

namespace Cert.KernelIdeal.Val

open Cert.KernelIdeal Cert.KernelIdeal.Gen Cert.Math
open Idealize.ShloMosaic Idealize.ShloMosaic.ValueIdx

/-! ## Layout operations at an index -/

section Layout
variable {α : Type} {R C : Nat}

/-- A vector cast to one column. -/
theorem colCast_apply (v : (⟨1, ![R]⟩ : Shape).Idx → α) (h : (⟨1, ![R]⟩ : Shape).ShapeCasts ⟨2, ![R, 1]⟩) (r : Fin R) :
    shapeCast ⟨2, ![R, 1]⟩ v h (ix2 r 0) = v (ix1 r) :=
  shapeCast_apply v h (ix2 r 0) (ix1 r) (by
    rewrite [Shape.rowMajor_val_two, Shape.rowMajor_val_one]
    show r.val = r.val * 1 + 0
    omega)

/-- A vector cast to one row. -/
theorem rowCast_apply (v : (⟨1, ![C]⟩ : Shape).Idx → α) (h : (⟨1, ![C]⟩ : Shape).ShapeCasts ⟨2, ![1, C]⟩) (c : Fin C) :
    shapeCast ⟨2, ![1, C]⟩ v h (ix2 0 c) = v (ix1 c) :=
  shapeCast_apply v h (ix2 0 c) (ix1 c) (by
    rewrite [Shape.rowMajor_val_two, Shape.rowMajor_val_one]
    show c.val = 0 * C + c.val
    omega)

/-- One column repeated along the rows' axis. -/
theorem colBcast_apply (v : (⟨2, ![R, 1]⟩ : Shape).Idx → α) (h : (⟨2, ![R, 1]⟩ : Shape).Broadcasts ⟨2, ![R, C]⟩)
    (hR : R ≠ 1) (r : Fin R) (c : Fin C) : broadcastTo ⟨2, ![R, C]⟩ v h (ix2 r c) = v (ix2 r 0) :=
  broadcastTo_apply v h (ix2 r c) (ix2 r 0) (fun a => by
    match a with
    | ⟨0, _⟩ => exact (if_neg hR).symm
    | ⟨1, _⟩ => rfl)

/-- One row repeated down the columns' axis. -/
theorem rowBcast_apply (v : (⟨2, ![1, C]⟩ : Shape).Idx → α) (h : (⟨2, ![1, C]⟩ : Shape).Broadcasts ⟨2, ![R, C]⟩)
    (hC : C ≠ 1) (r : Fin R) (c : Fin C) : broadcastTo ⟨2, ![R, C]⟩ v h (ix2 r c) = v (ix2 0 c) :=
  broadcastTo_apply v h (ix2 r c) (ix2 0 c) (fun a => by
    match a with
    | ⟨0, _⟩ => rfl
    | ⟨1, _⟩ => exact (if_neg hC).symm)

/-- A row sum. -/
theorem rowSum_apply (v : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ v 0x00000000#32 h hφ hacc (ix1 r) = ∑ k : Fin C, v (ix2 r k) := by
  rw [Ideal.multiReduction_add_single]
  refine Finset.sum_congr rfl fun k _ => congrArg v (funext fun a => Fin.ext ?_)
  match a with
  | ⟨0, _⟩ => rfl
  | ⟨1, _⟩ => rfl

end Layout

/-- A product with a zero accumulator. -/
theorem matmul_zero_apply {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (c : Fin N) :
    FloatOps.matmul d none a b (constant ⟨2, ![M, N]⟩ .f32 0x00000000#32) (ix2 r c) = ∑ k : Fin K, a (ix2 r k) * b (ix2 k c) := by
  subst hd
  rw [Ideal.matmul_plain_apply]
  show Ideal.ofBits .f32 0x00000000#32 + _ = _
  rw [Ideal.ofBits_zero_f32, zero_add]

/-- A row sum divided by the word of 256, laid out as one column. -/
theorem meanCol_apply (v : FVec Ideal S400x256 .f32) (r : Fin 400) :
    divf (shapeCast S400x1 (multiReduction .add [1] S400 v 0x00000000#32 reduces_S400x256_S400 (.inl rfl) rfl)
      shapeCasts_S400_S400x1) (broadcast S400x1 (Scalar.ofBits .f32 0x43800000#32)) (ix2 r 0)
      = Ideal.div (∑ k, v (ix2 r k)) c256 :=
  congrArg (Ideal.div · c256) ((colCast_apply _ _ r).trans (rowSum_apply v _ _ _ r))

/-! ## The first body -/

/-- The projected block, at one element. -/
theorem pay2_apply (x : Vec Ideal S400x256 .f32) (g b : Vec Ideal S256 .f32) (w : Vec Ideal S256x256 .f32) (r : Fin 400) (c : Fin 256) :
    k0_pay2 x g b w (ix2 r c)
      = featRow (fun k => x (ix2 r k)) (fun k => g (ix1 k)) (fun k => b (ix1 k)) (fun k c => w (ix2 k c)) c := by
  unfold k0_pay2
  refine (matmul_zero_apply _ rfl _ _ r c).trans (Finset.sum_congr rfl fun k _ => ?_)
  simp only [shapeCast_self, addf_apply, mulf_apply, subf_apply]
  congr 1
  rw [colBcast_apply _ _ (by decide), colBcast_apply _ _ (by decide), rowBcast_apply _ _ (by decide), rowBcast_apply _ _ (by decide),
    rowCast_apply, rowCast_apply]
  refine congrArg₂ (· + ·) (congrArg₂ (· * ·) (congrArg₂ (· * ·) (congrArg (_ - ·) (meanCol_apply _ r)) ?_) rfl) rfl
  refine congrArg (fun z => Ideal.rsqrt (z + cEps)) ((meanCol_apply _ r).trans ?_)
  unfold rowVar
  congr 1
  refine Finset.sum_congr rfl fun k _ => ?_
  rw [mulf_apply, subf_apply, colBcast_apply _ _ (by decide)]
  exact congrArg (fun z => (_ - z) * (_ - z)) (meanCol_apply _ r)

/-- One score block: the hyperbolic tangent of the projected block times a matrix. -/
theorem pay4_apply (x : Vec Ideal S400x256 .f32) (g b : Vec Ideal S256 .f32) (w : Vec Ideal S256x256 .f32)
    (a : Vec Ideal S256x8 .f32) (r : Fin 400) (h : Fin 8) :
    k0_pay4 x g b w a (ix2 r h)
      = ∑ c, Ideal.tanh (featRow (fun k => x (ix2 r k)) (fun k => g (ix1 k)) (fun k => b (ix1 k)) (fun k c => w (ix2 k c)) c) * a (ix2 c h) := by
  unfold k0_pay4
  refine (matmul_zero_apply _ rfl _ _ r h).trans (Finset.sum_congr rfl fun c _ => ?_)
  rw [shapeCast_self, ← pay2_apply]
  rfl

/-- The other score block is the same function of its own matrix. -/
theorem pay1_eq (x : Vec Ideal S400x256 .f32) (g b : Vec Ideal S256 .f32) (w : Vec Ideal S256x256 .f32) (a : Vec Ideal S256x8 .f32) :
    k0_pay1 (k0_pay3 x g b w) a = k0_pay4 x g b w a := rfl

/-! ## The second body -/

/-- The block after the output projection and the residual, at one element. -/
theorem res_apply (f : Vec Ideal S400x256 .f32) (w : Vec Ideal S256x256 .f32) (x : Vec Ideal S400x256 .f32) (r : Fin 400) (c : Fin 256) :
    k1_pay2 f w x (ix2 r c) = resRow (fun k => f (ix2 r k)) (fun k => x (ix2 r k)) (fun k c => w (ix2 k c)) c := by
  unfold k1_pay2
  rw [addf_apply]
  refine congrArg (· + _) ((matmul_zero_apply _ rfl _ _ r c).trans (Finset.sum_congr rfl fun k _ => ?_))
  rw [shapeCast_self, shapeCast_self]

/-- The hidden block before its rectifier, at one element. -/
theorem hid_apply (f : Vec Ideal S400x256 .f32) (w : Vec Ideal S256x256 .f32) (x : Vec Ideal S400x256 .f32) (g b : Vec Ideal S256 .f32)
    (w1 : Vec Ideal S256x1024 .f32) (b1 : Vec Ideal S1024 .f32) (r : Fin 400) (j : Fin 1024) :
    k1_pay3 f w x g b w1 b1 (ix2 r j)
      = (∑ k, lnRow (resRow (fun k => f (ix2 r k)) (fun k => x (ix2 r k)) (fun k c => w (ix2 k c))) (fun k => g (ix1 k)) (fun k => b (ix1 k)) k
          * w1 (ix2 k j)) + b1 (ix1 j) := by
  unfold k1_pay3
  have hv := res_apply f w x
  generalize k1_pay2 f w x = v at hv
  have hr : resRow (fun k => f (ix2 r k)) (fun k => x (ix2 r k)) (fun k c => w (ix2 k c)) = fun k => v (ix2 r k) := (funext fun c => (hv r c)).symm
  rw [hr]
  rw [addf_apply, rowBcast_apply _ _ (by decide), rowCast_apply]
  refine congrArg (· + _) ((matmul_zero_apply _ rfl _ _ r j).trans (Finset.sum_congr rfl fun k _ => ?_))
  simp only [shapeCast_self, addf_apply, mulf_apply, subf_apply]
  congr 1
  rw [colBcast_apply _ _ (by decide), colBcast_apply _ _ (by decide), rowBcast_apply _ _ (by decide), rowBcast_apply _ _ (by decide),
    rowCast_apply, rowCast_apply]
  refine congrArg₂ (· + ·) (congrArg₂ (· * ·) (congrArg₂ (· * ·) (congrArg (_ - ·) (meanCol_apply _ r)) ?_) rfl) rfl
  refine congrArg (fun z => Ideal.rsqrt (z + cEps)) ((meanCol_apply _ r).trans ?_)
  unfold rowVar
  congr 1
  refine Finset.sum_congr rfl fun k _ => ?_
  rw [mulf_apply, subf_apply, colBcast_apply _ _ (by decide)]
  exact congrArg (fun z => (_ - z) * (_ - z)) (meanCol_apply _ r)

/-- The finished block, at one element. -/
theorem out_apply (f : Vec Ideal S400x256 .f32) (x : Vec Ideal S400x256 .f32) (w : Vec Ideal S256x256 .f32) (g b : Vec Ideal S256 .f32)
    (w1 : Vec Ideal S256x1024 .f32) (b1 : Vec Ideal S1024 .f32) (w2 : Vec Ideal S1024x256 .f32) (b2 : Vec Ideal S256 .f32)
    (r : Fin 400) (c : Fin 256) :
    k1_pay1 (k1_pay2 f w x) (k1_pay3 f w x g b w1 b1) (Scalar.ofBits .f32 0x00000000#32) w2 b2 (ix2 r c)
      = outRow (fun k => f (ix2 r k)) (fun k => x (ix2 r k)) (fun k c => w (ix2 k c)) (fun k => g (ix1 k)) (fun k => b (ix1 k))
          (fun k j => w1 (ix2 k j)) (fun j => b1 (ix1 j)) (fun j c => w2 (ix2 j c)) (fun c => b2 (ix1 c)) c := by
  unfold k1_pay1 outRow
  rw [addf_apply, addf_apply, rowBcast_apply _ _ (by decide), rowCast_apply, res_apply]
  refine congrArg (fun z => _ + z + _) ((matmul_zero_apply _ rfl _ _ r c).trans (Finset.sum_congr rfl fun j _ => ?_))
  rw [shapeCast_self, maximumf_apply, hid_apply]
  unfold hidRow
  congr 2
  exact Ideal.ofBits_zero_f32

end Cert.KernelIdeal.Val

end
-- ==== Proof.Region1.lean ====
/- The array the second launch leaves, as a function of the arrays it enters with. -/
module

public import proofs.«01_k».proof.Proof.Gen.KernelIdeal.Frame
public import proofs.«01_k».proof.Proof.Payload
public import Idealize.ShloMosaic.Lib.Pipeline.ValueKit

@[expose] public section

noncomputable section

namespace Cert.KernelIdeal.Val

open Cert.KernelIdeal Cert.KernelIdeal.Gen Cert.Math
open Idealize.ShloMosaic hiding ix1 ix2 ix3 eq_ix2
open Idealize.ShloMosaic.ValueIdx Idealize.ShloMosaic.TcCoe Idealize.SL.Sem
open Idealize.ShloMosaic.Pipeline (Dat)

/-- The finished rows: `outRow` of every node's row of messages and of its input row. -/
def outArr (f x : FVec Ideal S10000x256 .f32) (w : FVec Ideal S256x256 .f32) (g b : FVec Ideal S256 .f32)
    (w1 : FVec Ideal S256x1024 .f32) (b1 : FVec Ideal S1024 .f32) (w2 : FVec Ideal S1024x256 .f32) (b2 : FVec Ideal S256 .f32) :
    FVec Ideal S10000x256 .f32 :=
  fun i => outRow (fun k => f (ix2 (i 0) k)) (fun k => x (ix2 (i 0) k)) (fun k c => w (ix2 k c)) (fun k => g (ix1 k))
    (fun k => b (ix1 k)) (fun k j => w1 (ix2 k j)) (fun j => b1 (ix1 j)) (fun j c => w2 (ix2 j c)) (fun c => b2 (ix1 c)) (i 1)

variable (V : (c : Dev nD) → (b : Ref sig .tc) → Buf (Elt Ideal) ((c : Thread nD τ).loc b))

/-- Where each block of the second launch lies at each point. -/
theorem idx1 : ∀ t : Fin cfg1.N, win1_0.index t = ![t.val, 0] ∧ win1_1.index t = ![t.val, 0] ∧ win1_2.index t = ![0, 0]
    ∧ win1_3.index t = ![0] ∧ win1_4.index t = ![0] ∧ win1_5.index t = ![0, 0] ∧ win1_6.index t = ![0] ∧ win1_7.index t = ![0, 0]
    ∧ win1_8.index t = ![0] ∧ win1_9.index t = ![t.val, 0] :=
  (by decide +kernel : ∀ t : Fin grid1.N, _)

/-- The second launch's array. -/
theorem dat1_out (c : Dev nD) :
    (dat1 (F := Ideal) V c).arrAt 9 cfg1.N
      = outArr (V c main_v127) (V c main_arg0) (V c main_v128) (V c main_arg8) (V c main_arg9) (V c main_v129) (V c main_arg11)
          (V c main_v130) (V c main_arg13) := by
  refine (dat1 V c).arrAt_eq_of_covers 9 _ (by decide +kernel) fun t hf y => ?_
  blk_simp
  rw [after1_9]
  frame_out
  refine (congrArg (k1_pay1 _ _ _ _ _) (eq_ix2 y)).trans ((out_apply _ _ _ _ _ _ _ _ _ (y 0) (y 1)).trans ?_)
  unfold outArr
  blk_point [iblk1, idx1 t]
  · show t.val * 400 + (y 0).val = ((((View.whole main_v131).slice (win1_9.rect t)).emb y) 0).val
    blk_simp [idx1 t]
  · show t.val * 400 + (y 0).val = ((((View.whole main_v131).slice (win1_9.rect t)).emb y) 0).val
    blk_simp [idx1 t]
  all_goals
    show (y 1).val = ((((View.whole main_v131).slice (win1_9.rect t)).emb y) 1).val
    blk_simp [idx1 t]

end Cert.KernelIdeal.Val

end
-- ==== Proof.Index.lean ====
/- Gathers and scatters of whole rows, read at one index: a gather down the leading axis of a table reads the row its
   start index names, an accumulating scatter adds to each row the updates whose index is that row's number, and a scatter that
   sets single elements leaves at each element the value of the update that lands there. -/
module

public import Idealize.ShloMosaic.Lib.ValueIdx
public import Idealize.ShloMosaic.Lib.ValueIdxCore
public import Idealize.ShloMosaic.PureOps.Ideal.Laws

@[expose] public section

noncomputable section

namespace Cert.Index

open Idealize.ShloMosaic Idealize.ShloMosaic.ValueIdx

/-- The rows that a gather reads through a column of indices: an index below the table reads its first row, one above it
    its last. -/
def Names {E N : Nat} (idx : IVec ⟨2, ![E, 1]⟩ 32) (row : Fin E → Fin N) : Prop :=
  ∀ k, min (idx (ix2 k 0)).toInt.toNat (N - 1) = (row k).val

/-- An index of a column is the number of a row: the updates of a scatter that land there. -/
abbrev Lands {E N : Nat} (idx : IVec ⟨2, ![E, 1]⟩ 32) (n : Fin N) (k : Fin E) : Prop :=
  (idx (ix2 k 0)).toInt = (n.val : Int)

/-- The two axes of a rank-2 shape. -/
theorem fin2 (a : Fin 2) : a = 0 ∨ a = 1 := by
  match a with
  | ⟨0, _⟩ => exact Or.inl rfl
  | ⟨1, _⟩ => exact Or.inr rfl

/-- The three axes of a rank-3 shape. -/
theorem fin3 (a : Fin 3) : a = 0 ∨ a = 1 ∨ a = 2 := by
  match a with
  | ⟨0, _⟩ => exact Or.inl rfl
  | ⟨1, _⟩ => exact Or.inr (Or.inl rfl)
  | ⟨2, _⟩ => exact Or.inr (Or.inr rfl)

/-! ## Gathers -/

section Gather2
variable {α : Type} {N C E : Nat}

/-- Rows of a rank-2 table. -/
abbrev gDims2 (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gather of rows of a rank-2 table, read at `(k, h)`. -/
theorem gather2_apply (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (row : Fin E → Fin N) (hr : Names idx row)
    (k : Fin E) (h : Fin C) :
    Host.gather (gDims2 N C E wf) x idx (ix2 k h) = x (ix2 (row k) h) := by
  unfold Host.gather
  congr 1
  funext a
  refine Fin.ext ?_
  show (gDims2 N C E wf).start (ix2 k h) idx a + (gDims2 N C E wf).batchCoord (ix2 k h) a
      + (gDims2 N C E wf).offCoord (ix2 k h) a = _
  rw [GatherDims.batchCoord_eq_zero _ _ _ List.not_mem_nil]
  rcases fin2 a with rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (gDims2 N C E wf).siIdx (ix2 k h) ⟨List.idxOf (0 : Fin 2) (gDims2 N C E wf).startIndexMap,
        List.idxOf_lt_length_iff.2 (List.mem_singleton.mpr rfl)⟩ = ix2 k 0 := by
      funext b; refine Fin.ext ?_
      match b with
      | ⟨0, _⟩ => rfl
      | ⟨1, _⟩ => rfl
    exact (congrArg (fun z => min (idx z).toInt.toNat (N - 1)) hsi).trans (hr k)
  · unfold GatherDims.start
    rw [dif_neg (fun h => by simp at h)]
    simp only [Nat.zero_add]
    rfl

end Gather2

section Gather3
variable {α : Type} {N C D E : Nat}

/-- Rows of a rank-3 table. -/
abbrev gDims3 (N C D E : Nat)
    (wf : GatherDims.WF ⟨3, ![N, C, D]⟩ ⟨2, ![E, 1]⟩ ⟨3, ![E, C, D]⟩ [1, 2] [0] [] [0] [] 1 ![1, C, D]) :
    GatherDims ⟨3, ![N, C, D]⟩ ⟨2, ![E, 1]⟩ ⟨3, ![E, C, D]⟩ where
  offsetDims := [1, 2]
  collapsedSliceDims := [0]
  operandBatchingDims := []
  startIndicesBatchingDims := []
  startIndexMap := [0]
  indexVectorDim := 1
  sliceSizes := ![1, C, D]
  wf := wf

/-- A gather of rows of a rank-3 table, read at `(k, h, d)`. -/
theorem gather3_apply
    (wf : GatherDims.WF ⟨3, ![N, C, D]⟩ ⟨2, ![E, 1]⟩ ⟨3, ![E, C, D]⟩ [1, 2] [0] [] [0] [] 1 ![1, C, D])
    (x : (⟨3, ![N, C, D]⟩ : Shape).Idx → α) (idx : IVec ⟨2, ![E, 1]⟩ 32) (row : Fin E → Fin N) (hr : Names idx row)
    (k : Fin E) (h : Fin C) (d : Fin D) :
    Host.gather (gDims3 N C D E wf) x idx (ix3 k h d) = x (ix3 (row k) h d) := by
  unfold Host.gather
  congr 1
  funext a
  refine Fin.ext ?_
  show (gDims3 N C D E wf).start (ix3 k h d) idx a + (gDims3 N C D E wf).batchCoord (ix3 k h d) a
      + (gDims3 N C D E wf).offCoord (ix3 k h d) a = _
  rw [GatherDims.batchCoord_eq_zero _ _ _ List.not_mem_nil]
  rcases fin3 a with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (gDims3 N C D E wf).siIdx (ix3 k h d) ⟨List.idxOf (0 : Fin 3) (gDims3 N C D E wf).startIndexMap,
        List.idxOf_lt_length_iff.2 (List.mem_singleton.mpr rfl)⟩ = ix2 k 0 := by
      funext b; refine Fin.ext ?_
      match b with
      | ⟨0, _⟩ => rfl
      | ⟨1, _⟩ => rfl
    exact (congrArg (fun z => min (idx z).toInt.toNat (N - 1)) hsi).trans (hr k)
  · unfold GatherDims.start
    rw [dif_neg (fun h => by simp at h)]
    simp only [Nat.zero_add]
    rfl
  · unfold GatherDims.start
    rw [dif_neg (fun h => by simp at h)]
    simp only [Nat.zero_add]
    rfl

end Gather3

/-! ## Accumulating scatters -/

/-- A sum over the pairs whose first coordinate satisfies a property and whose second is fixed. -/
theorem sum_pairs {M : Type*} [AddCommMonoid M] {E C : Nat} (p : Fin E → Prop) [DecidablePred p] (h : Fin C)
    (f : (⟨2, ![E, C]⟩ : Shape).Idx → M) (q : (⟨2, ![E, C]⟩ : Shape).Idx → Prop) [DecidablePred q]
    (hq : ∀ k b, q (ix2 k b) ↔ p k ∧ b = h) :
    ∑ j ∈ Finset.univ.filter q, f j = ∑ k ∈ Finset.univ.filter p, f (ix2 k h) := by
  rw [Finset.sum_filter, sum_idx2, Finset.sum_filter]
  refine Finset.sum_congr rfl fun k _ => ?_
  by_cases hk : p k
  · rw [if_pos hk, Finset.sum_eq_single h]
    · rw [if_pos ((hq k h).2 ⟨hk, rfl⟩)]
    · intro b _ hb
      rw [if_neg fun e => hb ((hq k b).1 e).2]
    · intro hh
      exact absurd (Finset.mem_univ _) hh
  · rw [if_neg hk]
    exact Finset.sum_eq_zero fun b _ => if_neg fun e => hk ((hq k b).1 e).1

section Scatter2
variable {N C E : Nat}

/-- Rows of a rank-2 table. -/
abbrev sDims2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(k, b)` lands at row `n` and column `h` when its index is `n` and `b` is `h`; an index out of range lands
    nowhere. -/
theorem land2 (wf : ScatterDims.WF ⟨2, ![N, C]⟩ ⟨2, ![E, 1]⟩ ⟨2, ![E, C]⟩ [1] [0] [0] 1)
    (idx : IVec ⟨2, ![E, 1]⟩ 32) (k : Fin E) (b : Fin C) (n : Fin N) (h : Fin C) :
    (sDims2 N C E wf).resultIdx? (ix2 k b) idx = some (ix2 n h) ↔ Lands idx n k ∧ b = h := by
  have hsi : (sDims2 N C E wf).siIdx (ix2 k b) ⟨List.idxOf (0 : Fin 2) (sDims2 N C E wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  have s0 : (sDims2 N C E wf).start (ix2 k b) idx 0 = (idx (ix2 k 0)).toInt := by
    unfold ScatterDims.start
    rw [dif_pos (List.mem_singleton.mpr rfl)]
    exact congrArg (fun z => (idx z).toInt) hsi
  have s1 : (sDims2 N C E wf).start (ix2 k b) idx 1 = 0 := by
    unfold ScatterDims.start
    rw [dif_neg (fun h => by simp at h)]
  have t0 : (sDims2 N C E wf).start (ix2 k b) idx 0 + ((sDims2 N C E wf).window (ix2 k b) 0 : Nat)
      = (idx (ix2 k 0)).toInt := by rw [s0]; exact Int.add_zero _
  have t1 : (sDims2 N C E wf).start (ix2 k b) idx 1 + ((sDims2 N C E wf).window (ix2 k b) 1 : Nat) = (b.val : Int) := by
    rw [s1]; exact Int.zero_add _
  have hb := b.isLt
  have hn := n.isLt
  unfold ScatterDims.resultIdx?
  constructor
  · intro e
    split at e
    next hin =>
      have e' := Option.some.inj e
      have e0 : ((sDims2 N C E wf).start (ix2 k b) idx 0 + ((sDims2 N C E wf).window (ix2 k b) 0 : Nat)).toNat = n.val :=
        congrArg Fin.val (congrFun e' 0)
      have e1 : ((sDims2 N C E wf).start (ix2 k b) idx 1 + ((sDims2 N C E wf).window (ix2 k b) 1 : Nat)).toNat = h.val :=
        congrArg Fin.val (congrFun e' 1)
      have i0 := (hin 0).1
      rw [t0] at e0 i0
      rw [t1] at e1
      exact ⟨show (idx (ix2 k 0)).toInt = _ by omega, Fin.ext (by omega)⟩
    next => cases e
  · rintro ⟨hl, rfl⟩
    have hl' : (idx (ix2 k 0)).toInt = (n.val : Int) := hl
    rw [dif_pos]
    · congr 1
      funext a
      refine Fin.ext ?_
      rcases fin2 a with rfl | rfl
      · refine (congrArg Int.toNat (t0.trans hl')).trans ?_
        simp
      · refine (congrArg Int.toNat t1).trans ?_
        simp
    · intro a
      rcases fin2 a with rfl | rfl
      · rw [t0, hl']
        show 0 ≤ (n.val : Int) ∧ (n.val : Int) < (N : Int)
        omega
      · rw [t1]
        show 0 ≤ (b.val : Int) ∧ (b.val : Int) < (C : Int)
        omega

/-- An accumulating scatter into the rows of a rank-2 table, read at `(n, h)`: the updates whose index is `n`. -/
theorem scatter2_apply (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32)
    (upd : FVec Ideal ⟨2, ![E, C]⟩ .f32) (n : Fin N) (h : Fin C) :
    Host.scatterAdd (F := Ideal) (sDims2 N C E wf) x idx upd (ix2 n h)
      = x (ix2 n h) + ∑ k ∈ Finset.univ.filter (Lands idx n), upd (ix2 k h) := by
  show x (ix2 n h) + _ = _
  congr 1
  exact sum_pairs (Lands idx n) h upd _ fun k b => land2 wf idx k b n h

end Scatter2

section Scatter3
variable {N C D E : Nat}

/-- Rows of a rank-3 table. -/
abbrev sDims3 (N C D E : Nat) (wf : ScatterDims.WF ⟨3, ![N, C, D]⟩ ⟨2, ![E, 1]⟩ ⟨3, ![E, C, D]⟩ [1, 2] [0] [0] 1) :
    ScatterDims ⟨3, ![N, C, D]⟩ ⟨2, ![E, 1]⟩ ⟨3, ![E, C, D]⟩ where
  updateWindowDims := [1, 2]
  insertedWindowDims := [0]
  scatterDimsToOperandDims := [0]
  indexVectorDim := 1
  wf := wf

/-- Update `(k, b, c)` lands at `(n, h, d)` when its index is `n`, `b` is `h` and `c` is `d`; an index out of range lands
    nowhere. -/
theorem land3 (wf : ScatterDims.WF ⟨3, ![N, C, D]⟩ ⟨2, ![E, 1]⟩ ⟨3, ![E, C, D]⟩ [1, 2] [0] [0] 1)
    (idx : IVec ⟨2, ![E, 1]⟩ 32) (k : Fin E) (b : Fin C) (c : Fin D) (n : Fin N) (h : Fin C) (d : Fin D) :
    (sDims3 N C D E wf).resultIdx? (ix3 k b c) idx = some (ix3 n h d) ↔ Lands idx n k ∧ b = h ∧ c = d := by
  have hsi : (sDims3 N C D E wf).siIdx (ix3 k b c) ⟨List.idxOf (0 : Fin 3) (sDims3 N C D E wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  have s0 : (sDims3 N C D E wf).start (ix3 k b c) idx 0 = (idx (ix2 k 0)).toInt := by
    unfold ScatterDims.start
    rw [dif_pos (List.mem_singleton.mpr rfl)]
    exact congrArg (fun z => (idx z).toInt) hsi
  have s1 : (sDims3 N C D E wf).start (ix3 k b c) idx 1 = 0 := by
    unfold ScatterDims.start
    rw [dif_neg (fun h => by simp at h)]
  have s2 : (sDims3 N C D E wf).start (ix3 k b c) idx 2 = 0 := by
    unfold ScatterDims.start
    rw [dif_neg (fun h => by simp at h)]
  have t0 : (sDims3 N C D E wf).start (ix3 k b c) idx 0 + ((sDims3 N C D E wf).window (ix3 k b c) 0 : Nat)
      = (idx (ix2 k 0)).toInt := by rw [s0]; exact Int.add_zero _
  have t1 : (sDims3 N C D E wf).start (ix3 k b c) idx 1 + ((sDims3 N C D E wf).window (ix3 k b c) 1 : Nat) = (b.val : Int) := by
    rw [s1]; exact Int.zero_add _
  have t2 : (sDims3 N C D E wf).start (ix3 k b c) idx 2 + ((sDims3 N C D E wf).window (ix3 k b c) 2 : Nat) = (c.val : Int) := by
    rw [s2]; exact Int.zero_add _
  have hb := b.isLt
  have hc := c.isLt
  have hn := n.isLt
  unfold ScatterDims.resultIdx?
  constructor
  · intro e
    split at e
    next hin =>
      have e' := Option.some.inj e
      have e0 : ((sDims3 N C D E wf).start (ix3 k b c) idx 0 + ((sDims3 N C D E wf).window (ix3 k b c) 0 : Nat)).toNat = n.val :=
        congrArg Fin.val (congrFun e' 0)
      have e1 : ((sDims3 N C D E wf).start (ix3 k b c) idx 1 + ((sDims3 N C D E wf).window (ix3 k b c) 1 : Nat)).toNat = h.val :=
        congrArg Fin.val (congrFun e' 1)
      have e2 : ((sDims3 N C D E wf).start (ix3 k b c) idx 2 + ((sDims3 N C D E wf).window (ix3 k b c) 2 : Nat)).toNat = d.val :=
        congrArg Fin.val (congrFun e' 2)
      have i0 := (hin 0).1
      rw [t0] at e0 i0
      rw [t1] at e1
      rw [t2] at e2
      exact ⟨show (idx (ix2 k 0)).toInt = _ by omega, Fin.ext (by omega), Fin.ext (by omega)⟩
    next => cases e
  · rintro ⟨hl, rfl, rfl⟩
    have hl' : (idx (ix2 k 0)).toInt = (n.val : Int) := hl
    rw [dif_pos]
    · congr 1
      funext a
      refine Fin.ext ?_
      rcases fin3 a with rfl | rfl | rfl
      · refine (congrArg Int.toNat (t0.trans hl')).trans ?_
        simp
      · refine (congrArg Int.toNat t1).trans ?_
        simp
      · refine (congrArg Int.toNat t2).trans ?_
        simp
    · intro a
      rcases fin3 a with rfl | rfl | rfl
      · rw [t0, hl']
        show 0 ≤ (n.val : Int) ∧ (n.val : Int) < (N : Int)
        omega
      · rw [t1]
        show 0 ≤ (b.val : Int) ∧ (b.val : Int) < (C : Int)
        omega
      · rw [t2]
        show 0 ≤ (c.val : Int) ∧ (c.val : Int) < (D : Int)
        omega

/-- An accumulating scatter into the rows of a rank-3 table depends on the updates that land alone. -/
theorem scatter3_congr (wf : ScatterDims.WF ⟨3, ![N, C, D]⟩ ⟨2, ![E, 1]⟩ ⟨3, ![E, C, D]⟩ [1, 2] [0] [0] 1)
    (x : FVec Ideal ⟨3, ![N, C, D]⟩ .f32) (idx : IVec ⟨2, ![E, 1]⟩ 32) (upd upd' : FVec Ideal ⟨3, ![E, C, D]⟩ .f32)
    (hu : ∀ k b c (n : Fin N), Lands idx n k → upd (ix3 k b c) = upd' (ix3 k b c)) :
    Host.scatterAdd (F := Ideal) (sDims3 N C D E wf) x idx upd = Host.scatterAdd (F := Ideal) (sDims3 N C D E wf) x idx upd' := by
  funext i
  show x i + _ = x i + _
  congr 1
  refine Finset.sum_congr rfl fun j hj => ?_
  have hland := (Finset.mem_filter.mp hj).2
  rw [eq_ix3 j] at hland ⊢
  rw [eq_ix3 i] at hland
  exact hu _ _ _ _ ((land3 wf idx _ _ _ _ _ _).1 hland).1

/-- The rank-3 indices with a last axis of one element are the rank-2 indices. -/
def drop1 {E C : Nat} : (⟨2, ![E, C]⟩ : Shape).Idx ≃ (⟨3, ![E, C, 1]⟩ : Shape).Idx where
  toFun j := ix3 (j 0) (j 1) (0 : Fin 1)
  invFun j := ix2 (n0 := E) (n1 := C) (j 0) (j 1)
  left_inv j := (eq_ix2 j).symm
  right_inv j := by
    funext a
    match a with
    | ⟨0, _⟩ => rfl
    | ⟨1, _⟩ => rfl
    | ⟨2, _⟩ => exact (Subsingleton.elim (α := Fin 1) _ _)

/-- An accumulating scatter into the rows of a table whose last axis has one element, read at `(n, h, 0)`: the updates whose
    index is `n`. -/
theorem scatter3_apply (wf : ScatterDims.WF ⟨3, ![N, C, 1]⟩ ⟨2, ![E, 1]⟩ ⟨3, ![E, C, 1]⟩ [1, 2] [0] [0] 1)
    (x : FVec Ideal ⟨3, ![N, C, 1]⟩ .f32) (idx : IVec ⟨2, ![E, 1]⟩ 32)
    (upd : FVec Ideal ⟨3, ![E, C, 1]⟩ .f32) (n : Fin N) (h : Fin C) :
    Host.scatterAdd (F := Ideal) (sDims3 N C 1 E wf) x idx upd (ix3 n h 0)
      = x (ix3 n h 0) + ∑ k ∈ Finset.univ.filter (Lands idx n), upd (ix3 k h 0) := by
  show x (ix3 n h 0) + _ = _
  congr 1
  rw [Finset.sum_filter, ← Equiv.sum_comp drop1, ← Finset.sum_filter]
  refine sum_pairs (Lands idx n) h (fun j => upd (drop1 j)) _ fun k b => ?_
  refine (land3 wf idx k b 0 n h 0).trans ?_
  exact ⟨fun e => ⟨e.1, e.2.1⟩, fun e => ⟨e.1, e.2, rfl⟩⟩

end Scatter3

/-! ## Scatters that set single elements -/

section Set
variable {α : Type} {s si u : Shape} {w : Nat}

/-- A fold of overwrites read at one element: if every update that lands there carries the value `v`, and one lands there
    or the element had that value before, the element is `v`. -/
theorem foldl_set {ι : Type} (l : List ι) (land : ι → Option s.Idx) (val : ι → α) (i : s.Idx) (v : α)
    (hv : ∀ n, land n = some i → val n = v) (r : s.Idx → α) (h : r i = v ∨ ∃ n ∈ l, land n = some i) :
    l.foldl (fun r n => match land n with
      | some i => fun i' => if i' = i then val n else r i'
      | none => r) r i = v := by
  induction l generalizing r with
  | nil =>
    rcases h with h | ⟨n, hn, _⟩
    · exact h
    · exact absurd hn List.not_mem_nil
  | cons n l ih =>
    rw [List.foldl_cons]
    apply ih
    by_cases hn : land n = some i
    · left
      simp only [hn, if_true]
      exact hv n hn
    · rcases h with h | ⟨n', hn', e⟩
      · left
        cases hto : land n with
        | none => exact h
        | some i' =>
          have : i ≠ i' := fun e => hn (by rw [hto, e])
          simp only [if_neg this, h]
      · rcases List.mem_cons.1 hn' with rfl | hn'
        · exact absurd e hn
        · exact Or.inr ⟨n', hn', e⟩

/-- A scatter that sets elements, read where an update lands: the value of the updates that land there. -/
theorem scatter_set (d : ScatterDims s si u) (x : s.Idx → α) (idx : IVec si w) (upd : u.Idx → α) (i : s.Idx) (v : α)
    (hv : ∀ j, d.resultIdx? j idx = some i → upd j = v) (h : x i = v ∨ ∃ j, d.resultIdx? j idx = some i) :
    Host.scatter d (fun _ b => b) x idx upd i = v := by
  refine foldl_set (List.finRange u.numel) (fun n => d.resultIdx? (u.rowMajor.symm n) idx)
    (fun n => upd (u.rowMajor.symm n)) i v (fun n hn => hv _ hn) x (h.imp id ?_)
  rintro ⟨j, hj⟩
  exact ⟨u.rowMajor j, List.mem_finRange _, by rw [Equiv.symm_apply_apply]; exact hj⟩

end Set

section Put
variable {N C E : Nat}

/-- Single elements of a rank-2 table. -/
abbrev pDims (N C E : Nat) (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

/-- Update `k` lands at the element its two indices name. -/
theorem resultPut (wf : ScatterDims.WF ⟨2, ![N, C]⟩ ⟨2, ![E, 2]⟩ ⟨1, ![E]⟩ [] [0, 1] [0, 1] 1)
    (idx : IVec ⟨2, ![E, 2]⟩ 32) (k : Fin E) (a : Fin N) (b : Fin C) (ha : (idx (ix2 k 0)).toInt = (a.val : Int))
    (hb : (idx (ix2 k 1)).toInt = (b.val : Int)) :
    (pDims N C E wf).resultIdx? (ix1 k) idx = some (ix2 a b) := by
  have h0 : (0 : Fin 2) ∈ (pDims N C E wf).scatterDimsToOperandDims := by simp
  have h1 : (1 : Fin 2) ∈ (pDims N C E wf).scatterDimsToOperandDims := by simp
  have hs0 : (pDims N C E wf).siIdx (ix1 k) ⟨List.idxOf (0 : Fin 2) (pDims N C E wf).scatterDimsToOperandDims,
      List.idxOf_lt_length_iff.2 h0⟩ = ix2 k 0 := by
    funext b; refine Fin.ext ?_
    match b with
    | ⟨0, _⟩ => rfl
    | ⟨1, _⟩ => rfl
  have hs1 : (pDims N C E wf).siIdx (ix1 k) ⟨List.idxOf (1 : Fin 2) (pDims N C E wf).scatterDimsToOperandDims,
      List.idxOf_lt_length_iff.2 h1⟩ = ix2 k 1 := by
    funext b; refine Fin.ext ?_
    match b with
    | ⟨0, _⟩ => rfl
    | ⟨1, _⟩ => rfl
  have s0 : (pDims N C E wf).start (ix1 k) idx 0 = (a.val : Int) := by
    unfold ScatterDims.start
    rw [dif_pos h0]
    exact (congrArg (fun z => (idx z).toInt) hs0).trans ha
  have s1 : (pDims N C E wf).start (ix1 k) idx 1 = (b.val : Int) := by
    unfold ScatterDims.start
    rw [dif_pos h1]
    exact (congrArg (fun z => (idx z).toInt) hs1).trans hb
  have w0 : (pDims N C E wf).window (ix1 k) 0 = 0 := rfl
  have w1 : (pDims N C E wf).window (ix1 k) 1 = 0 := rfl
  have la := a.isLt
  have lb := b.isLt
  unfold ScatterDims.resultIdx?
  rw [dif_pos]
  · congr 1
    funext c
    refine Fin.ext ?_
    rcases fin2 c with rfl | rfl
    · refine (congrArg Int.toNat (congrArg₂ (fun (p : Int) (q : Nat) => p + (q : Int)) s0 w0)).trans ?_
      simp
    · refine (congrArg Int.toNat (congrArg₂ (fun (p : Int) (q : Nat) => p + (q : Int)) s1 w1)).trans ?_
      simp
  · intro c
    rcases fin2 c with rfl | rfl
    · rw [s0, w0]
      show 0 ≤ (a.val : Int) + ((0 : Nat) : Int) ∧ (a.val : Int) + ((0 : Nat) : Int) < (N : Int)
      omega
    · rw [s1, w1]
      show 0 ≤ (b.val : Int) + ((0 : Nat) : Int) ∧ (b.val : Int) + ((0 : Nat) : Int) < (C : Int)
      omega

end Put

end Cert.Index

end
-- ==== Proof.HostPre.lean ====
/- The host stretch before the first launch: the two attention matrices, block diagonal, and the transposed projection. -/
module

public import proofs.«01_k».proof.Proof.Gen.KernelIdeal.Frame
public import proofs.«01_k».proof.Proof.Index
public import Idealize.ShloMosaic.Lib.StableHlo.Run
public import Idealize.ShloMosaic.Lib.Pipeline.Value

@[expose] public section

noncomputable section

namespace Cert.KernelIdeal.Val

open Cert.KernelIdeal Cert.KernelIdeal.Gen Cert.Index
open Idealize.ShloMosaic Idealize.ShloMosaic.ValueIdx Idealize.ShloMosaic.TcCoe Idealize.SL.Sem

/-! ## The stretch's functions -/

/-- A scalar word at every one of the 256 places. -/
def spread (w : BitVec 32) : IVec S256 32 := broadcastInDim S256 ![] bcast_S_S256 (constantI S_ 32 w)

/-- The channel numbers. -/
def chan : IVec S256 32 := iotaInDim S256 32 0

/-- A vector of words divided by 32, rounded down. -/
def floorDiv (x : IVec S256 32) : IVec S256 32 :=
  select (andi (cmpi .ne (signi x) (broadcastInDim S256 ![] bcast_S_S256 (signi (constantI S_ 32 32#32))))
      (cmpi .ne (Host.remsi x (spread 32#32)) (spread 0#32)))
    (subi (Host.divsi x (spread 32#32)) (spread 1#32)) (Host.divsi x (spread 32#32))

/-- A vector of positions, a negative one counted from the end `n`. -/
def wrapAt (n : BitVec 32) (x : IVec S256 32) : IVec S256 32 :=
  select (cmpi .slt x (spread 0#32)) (addi x (spread n)) x

/-- The pairs (channel, head) the attention weights are put at. -/
def headIdx : IVec S256x2 32 :=
  concatenate S256x2 1
    [⟨S256x1, broadcastInDim S256x1 ![0] bcast_S256_S256x1_0 (wrapAt 256#32 chan)⟩,
     ⟨S256x1, broadcastInDim S256x1 ![0] bcast_S256_S256x1_0 (wrapAt 8#32 (floorDiv chan))⟩]
    concatenates_S256x1_S256x1_S256x2_d1

/-- One attention vector as a matrix: each channel's weight in its own head's column, zero elsewhere. -/
def attnMat (a : FVec Ideal S1x8x32 .f32) : FVec Ideal S256x8 .f32 :=
  Host.scatter scatter_S256x8_S256x2_S256_n_01_01_1 (fun _ b => b)
    (broadcastInDim S256x8 ![] bcast_S_S256x8 (constant S_ .f32 0x00000000#32)) headIdx
    (shapeCast S256 a shapeCasts_S1x8x32_S256)

variable (m : (ℓ : Loc nD τ sig) → Buf (Elt Ideal) ℓ) (ρ : Dev nD → PrngReg)

/-! ## Reading the stretch -/

/-- The first attention matrix. -/
theorem W3_v18 (c : Dev nD) : W3 m ρ c main_v18 = attnMat (m ((c : Thread nD τ).loc main_arg5)) := by
  show StableHlo.after hostOps0_2 (StableHlo.after hostOps0_1 (StableHlo.after hostOps0 (W0 m ρ c))) (Proc.devRef .tc main_v18) = _
  after_results
  rfl

/-- The second attention matrix. -/
theorem W3_v33 (c : Dev nD) : W3 m ρ c main_v33 = attnMat (m ((c : Thread nD τ).loc main_arg6)) := by
  show StableHlo.after hostOps0_2 (StableHlo.after hostOps0_1 (StableHlo.after hostOps0 (W0 m ρ c))) (Proc.devRef .tc main_v33) = _
  after_results
  rfl

/-- The projection, transposed. -/
theorem W3_v34 (c : Dev nD) : W3 m ρ c main_v34
    = transpose S256x256 [1, 0] (m ((c : Thread nD τ).loc main_arg4)) transposes_S256x256_S256x256_1_0 := by
  show StableHlo.after hostOps0_2 (StableHlo.after hostOps0_1 (StableHlo.after hostOps0 (W0 m ρ c))) (Proc.devRef .tc main_v34) = _
  after_results_simp

/-! ## The attention matrix at an index -/

/-- The channel a pair names. -/
theorem headIdx_chan (k : Fin 256) : headIdx (ix2 k 0) = BitVec.ofNat 32 k.val := by
  revert k
  decide +kernel

/-- The head a pair names. -/
theorem headIdx_head (k : Fin 256) : headIdx (ix2 k 1) = BitVec.ofNat 32 (k.val / 32) := by
  revert k
  decide +kernel

/-- The head of a channel. -/
def headOf (c : Fin 256) : Fin 8 := ⟨c.val / 32, by omega⟩

/-- The attention matrix: each channel's weight in its own head's column, zero elsewhere. -/
theorem attnMat_apply (a : FVec Ideal S1x8x32 .f32) (c : Fin 256) (h : Fin 8) :
    attnMat a (ix2 c h) = if headOf c = h then a (ix3 0 (headOf c) ⟨c.val % 32, Nat.mod_lt _ (by decide)⟩) else 0 := by
  have land : ∀ k : Fin 256, scatter_S256x8_S256x2_S256_n_01_01_1.resultIdx? (ix1 k) headIdx = some (ix2 k (headOf k)) := fun k => by
    refine resultPut _ headIdx k k (headOf k) ?_ ?_
    · rw [headIdx_chan, BitVec.toInt_eq_toNat_of_lt (by rw [BitVec.toNat_ofNat]; omega), BitVec.toNat_ofNat]
      omega
    · rw [headIdx_head, BitVec.toInt_eq_toNat_of_lt (by rw [BitVec.toNat_ofNat]; omega), BitVec.toNat_ofNat]
      show ((k.val / 32 % 2 ^ 32 : Nat) : Int) = ((k.val / 32 : Nat) : Int)
      omega
  have hit : ∀ j, scatter_S256x8_S256x2_S256_n_01_01_1.resultIdx? j headIdx = some (ix2 c h) → j = ix1 c ∧ headOf c = h := fun j hj => by
    obtain ⟨k, rfl⟩ : ∃ k : Fin 256, j = ix1 k := ⟨j 0, eq_ix1 j⟩
    rw [land k] at hj
    have he := Option.some.inj hj
    have h0 : k = c := congrFun he 0
    have h1 : headOf k = h := congrFun he 1
    subst h0
    exact ⟨rfl, h1⟩
  unfold attnMat
  refine scatter_set _ _ _ _ _ _ (fun j hj => ?_) ?_
  · obtain ⟨rfl, rfl⟩ := hit j hj
    rw [if_pos rfl]
    exact shapeCast_apply a _ (ix1 c) (ix3 0 (headOf c) ⟨c.val % 32, Nat.mod_lt _ (by decide)⟩) (by
      rewrite [Shape.rowMajor_val_three, Shape.rowMajor_val_one]
      show (0 * 8 + c.val / 32) * 32 + c.val % 32 = c.val
      omega)
  · by_cases he : headOf c = h
    · subst he
      exact .inr ⟨_, land c⟩
    · left
      rw [if_neg he]
      exact Ideal.ofBits_zero_f32

end Cert.KernelIdeal.Val

end
-- ==== Proof.Region0.lean ====
/- The arrays the first launch leaves, as functions of the arrays it enters with. -/
module

public import proofs.«01_k».proof.Proof.Gen.KernelIdeal.Frame
public import proofs.«01_k».proof.Proof.Payload
public import Idealize.ShloMosaic.Lib.Pipeline.ValueKit

@[expose] public section

noncomputable section

namespace Cert.KernelIdeal.Val

open Cert.KernelIdeal Cert.KernelIdeal.Gen Cert.Math
open Idealize.ShloMosaic hiding ix1 ix2 ix3 eq_ix2
open Idealize.ShloMosaic.ValueIdx Idealize.ShloMosaic.TcCoe Idealize.SL.Sem
open Idealize.ShloMosaic.Pipeline (Dat)

/-- The projected features: `featRow` of every node's row. -/
def featArr (x : FVec Ideal S10000x256 .f32) (g b : FVec Ideal S256 .f32) (w : FVec Ideal S256x256 .f32) : FVec Ideal S10000x256 .f32 :=
  fun i => featRow (fun k => x (ix2 (i 0) k)) (fun k => g (ix1 k)) (fun k => b (ix1 k)) (fun k c => w (ix2 k c)) (i 1)

/-- The scores: the hyperbolic tangent of the projected features times a matrix. -/
def scoreArr (f : FVec Ideal S10000x256 .f32) (a : FVec Ideal S256x8 .f32) : FVec Ideal S10000x8 .f32 :=
  fun i => ∑ c, Ideal.tanh (f (ix2 (i 0) c)) * a (ix2 c (i 1))

variable (V : (c : Dev nD) → (b : Ref sig .tc) → Buf (Elt Ideal) ((c : Thread nD τ).loc b))

/-- Where each block of the first launch lies at each point. -/
theorem idx0 : ∀ t : Fin cfg0.N, win0_0.index t = ![t.val, 0] ∧ win0_1.index t = ![0] ∧ win0_2.index t = ![0] ∧ win0_3.index t = ![0, 0]
    ∧ win0_4.index t = ![0, 0] ∧ win0_5.index t = ![0, 0] ∧ win0_6.index t = ![t.val, 0] ∧ win0_7.index t = ![t.val, 0]
    ∧ win0_8.index t = ![t.val, 0] :=
  (by decide +kernel : ∀ t : Fin grid0.N, _)

/-- The first launch's first array. -/
theorem dat0_feat (c : Dev nD) :
    (dat0 (F := Ideal) V c).arrAt 6 cfg0.N = featArr (V c main_arg0) (V c main_arg2) (V c main_arg3) (V c main_v34) := by
  refine (dat0 V c).arrAt_eq_of_covers 6 _ (by decide +kernel) fun t hf y => ?_
  blk_simp
  rw [after0_6]
  frame_out
  refine (congrArg (k0_pay2 _ _ _ _) (eq_ix2 y)).trans ((pay2_apply _ _ _ _ (y 0) (y 1)).trans ?_)
  unfold featArr
  blk_point [iblk0, idx0 t]
  · show t.val * 400 + (y 0).val = ((((View.whole main_v35_0).slice (win0_6.rect t)).emb y) 0).val
    blk_simp [idx0 t]
  · show (y 1).val = ((((View.whole main_v35_0).slice (win0_6.rect t)).emb y) 1).val
    blk_simp [idx0 t]

/-- The first launch's second array: the scores against the first matrix. -/
theorem dat0_eh (c : Dev nD) :
    (dat0 (F := Ideal) V c).arrAt 7 cfg0.N
      = scoreArr (featArr (V c main_arg0) (V c main_arg2) (V c main_arg3) (V c main_v34)) (V c main_v18) := by
  refine (dat0 V c).arrAt_eq_of_covers 7 _ (by decide +kernel) fun t hf y => ?_
  blk_simp
  rw [after0_7]
  frame_out
  refine (congrArg (k0_pay4 _ _ _ _ _) (eq_ix2 y)).trans ((pay4_apply _ _ _ _ _ (y 0) (y 1)).trans ?_)
  unfold scoreArr featArr
  blk_point [iblk0, idx0 t]
  · show t.val * 400 + (y 0).val = ((((View.whole main_v35_1).slice (win0_7.rect t)).emb y) 0).val
    blk_simp [idx0 t]
  · show (y 1).val = ((((View.whole main_v35_1).slice (win0_7.rect t)).emb y) 1).val
    blk_simp [idx0 t]

/-- The first launch's third array: the scores against the second matrix. -/
theorem dat0_et (c : Dev nD) :
    (dat0 (F := Ideal) V c).arrAt 8 cfg0.N
      = scoreArr (featArr (V c main_arg0) (V c main_arg2) (V c main_arg3) (V c main_v34)) (V c main_v33) := by
  refine (dat0 V c).arrAt_eq_of_covers 8 _ (by decide +kernel) fun t hf y => ?_
  blk_simp
  rw [after0_8]
  frame_out
  refine (congrArg (k0_pay4 _ _ _ _ _) (eq_ix2 y)).trans ((pay4_apply _ _ _ _ _ (y 0) (y 1)).trans ?_)
  unfold scoreArr featArr
  blk_point [iblk0, idx0 t]
  · show t.val * 400 + (y 0).val = ((((View.whole main_v35_2).slice (win0_8.rect t)).emb y) 0).val
    blk_simp [idx0 t]
  · show (y 1).val = ((((View.whole main_v35_2).slice (win0_8.rect t)).emb y) 1).val
    blk_simp [idx0 t]

end Cert.KernelIdeal.Val

end
-- ==== Proof.HostMid.lean ====
/- The host stretch between the two launches: the edge weights, three hops, and the transposed matrices, as functions of
   what the first launch left. -/
module

public import proofs.«01_k».proof.Proof.Gen.KernelIdeal.Frame
public import proofs.«01_k».proof.Proof.Region0
public import Idealize.ShloMosaic.Lib.StableHlo.Run

@[expose] public section

noncomputable section

namespace Cert.KernelIdeal.Val

open Cert.KernelIdeal Cert.KernelIdeal.Gen
open Idealize.ShloMosaic hiding ix1 ix2 ix3 eq_ix2
open Idealize.ShloMosaic.ValueIdx Idealize.ShloMosaic.TcCoe Idealize.SL.Sem

/-! ## The stretch's functions -/

/-- The edges' first end points. -/
def srcRow (e : IVec S2x160000 32) : IVec S160000 32 :=
  shapeCast S160000 (extractStridedSlice S1x160000 ![0, 0] e slices_S2x160000_S1x160000_0_0) shapeCasts_S1x160000_S160000

/-- The edges' second end points. -/
def dstRow (e : IVec S2x160000 32) : IVec S160000 32 :=
  shapeCast S160000 (extractStridedSlice S1x160000 ![1, 0] e slices_S2x160000_S1x160000_1_0) shapeCasts_S1x160000_S160000

/-- End points as an index column. -/
def asIdx (i : IVec S160000 32) : IVec S160000x1 32 := broadcastInDim S160000x1 ![0] bcast_S160000_S160000x1_0 i

/-- End points as an index column, a negative one counted from the end. -/
def wrapIdx (i : IVec S160000 32) : IVec S160000x1 32 :=
  asIdx (select (cmpi .slt i (broadcastInDim S160000 ![] bcast_S_S160000 (constantI S_ 32 0#32)))
    (addi i (broadcastInDim S160000 ![] bcast_S_S160000 (constantI S_ 32 10000#32))) i)

/-- The raw score of every edge. -/
def edgeScore (eh et : FVec Ideal S10000x8 .f32) (src dst : IVec S160000 32) : FVec Ideal S160000x8 .f32 :=
  addf (Host.gather gather_S10000x8_S160000x1_S160000x8_1_0_n_n_0_1_18 eh (wrapIdx src))
    (Host.gather gather_S10000x8_S160000x1_S160000x8_1_0_n_n_0_1_18 et (wrapIdx dst))

/-- The leaky rectifier. -/
def leakyArr (e : FVec Ideal S160000x8 .f32) : FVec Ideal S160000x8 .f32 :=
  select (cmpf .ogt e (broadcastInDim S160000x8 ![] bcast_S_S160000x8 (constant S_ .f32 0x00000000#32))) e
    (mulf (broadcastInDim S160000x8 ![] bcast_S_S160000x8 (constant S_ .f32 0x3E4CCCCD#32)) e)

/-- The edges' weights: the exponential over its sum at the edge's second end point, guarded. -/
def weightArr (e : FVec Ideal S160000x8 .f32) (dst : IVec S160000 32) : FVec Ideal S160000x8 .f32 :=
  Host.divf (Host.exp e)
    (addf (Host.gather gather_S10000x8_S160000x1_S160000x8_1_0_n_n_0_1_18
        (Host.scatterAdd scatter_S10000x8_S160000x1_S160000x8_1_0_0_1
          (broadcastInDim S10000x8 ![] bcast_S_S10000x8 (constant S_ .f32 0x00000000#32)) (asIdx dst) (Host.exp e)) (wrapIdx dst))
      (broadcastInDim S160000x8 ![] bcast_S_S160000x8 (constant S_ .f32 0x24E69595#32)))

/-- One hop: the neighbours' rows weighted and summed, mixed with the starting rows. -/
def hop (a : FVec Ideal S160000x8x1 .f32) (f0 : FVec Ideal S10000x8x32 .f32) (src dst : IVec S160000 32)
    (f : FVec Ideal S10000x8x32 .f32) : FVec Ideal S10000x8x32 .f32 :=
  addf
    (mulf (broadcastInDim S10000x8x32 ![] bcast_S_S10000x8x32 (constant S_ .f32 0x3F59999A#32))
      (Host.scatterAdd scatter_S10000x8x32_S160000x1_S160000x8x32_12_0_0_1
        (broadcastInDim S10000x8x32 ![] bcast_S_S10000x8x32 (constant S_ .f32 0x00000000#32)) (asIdx dst)
        (mulf (Host.gather gather_S10000x8x32_S160000x1_S160000x8x32_12_0_n_n_0_1_1832 f (wrapIdx src))
          (broadcastInDim S160000x8x32 ![0, 1, 2] bcast_S160000x8x1_S160000x8x32_0_1_2 a))))
    (mulf (broadcastInDim S10000x8x32 ![] bcast_S_S10000x8x32 (constant S_ .f32 0x3E19999A#32)) f0)

/-- Three hops from the projected features, flattened back to rows. -/
def hops (a : FVec Ideal S160000x8x1 .f32) (feat : FVec Ideal S10000x256 .f32) (src dst : IVec S160000 32) :
    FVec Ideal S10000x256 .f32 :=
  let f0 := shapeCast S10000x8x32 feat shapeCasts_S10000x256_S10000x8x32
  shapeCast S10000x256 (hop a f0 src dst (hop a f0 src dst (hop a f0 src dst f0))) shapeCasts_S10000x8x32_S10000x256

variable (m : (ℓ : Loc nD τ sig) → Buf (Elt Ideal) ℓ) (ρ : Dev nD → PrngReg)

/-! ## Reading the stretch -/

/-- The raw scores. -/
theorem W5_v54 (c : Dev nD) : W5 m ρ c main_v54
    = edgeScore (W4 m ρ c main_v35_1) (W4 m ρ c main_v35_2) (srcRow (W4 m ρ c main_arg1)) (dstRow (W4 m ρ c main_arg1)) := by
  show StableHlo.after hostOps1 (W4 m ρ c) (Proc.devRef .tc main_v54) = _
  after_results_simp
  rfl

/-- The first end points. -/
theorem W5_v37 (c : Dev nD) : W5 m ρ c main_v37 = srcRow (W4 m ρ c main_arg1) := by
  show StableHlo.after hostOps1 (W4 m ρ c) (Proc.devRef .tc main_v37) = _
  after_results_simp
  rfl

/-- The second end points. -/
theorem W5_v39 (c : Dev nD) : W5 m ρ c main_v39 = dstRow (W4 m ρ c main_arg1) := by
  show StableHlo.after hostOps1 (W4 m ρ c) (Proc.devRef .tc main_v39) = _
  after_results_simp
  rfl

/-- The rectified scores. -/
theorem W6_v59 (c : Dev nD) : W6 m ρ c main_v59
    = leakyArr (edgeScore (W4 m ρ c main_v35_1) (W4 m ρ c main_v35_2) (srcRow (W4 m ρ c main_arg1)) (dstRow (W4 m ρ c main_arg1))) := by
  show StableHlo.after hostOps1_1 (StableHlo.after hostOps1 (W4 m ρ c)) (Proc.devRef .tc main_v59) = _
  after_results_simp
  rfl

/-- The rows after three hops. -/
theorem W7_v127 (c : Dev nD) : W7 m ρ c main_v127
    = hops (broadcastInDim S160000x8x1 ![0, 1] bcast_S160000x8_S160000x8x1_0_1 (weightArr (W6 m ρ c main_v59) (W6 m ρ c main_v39)))
        (W6 m ρ c main_v35_0) (W6 m ρ c main_v37) (W6 m ρ c main_v39) := by
  show StableHlo.after hostOps1_2 (W6 m ρ c) (Proc.devRef .tc main_v127) = _
  generalize W6 m ρ c = U
  after_results_simp
  rfl

/-- The output projection, transposed. -/
theorem W7_v128 (c : Dev nD) : W7 m ρ c main_v128
    = transpose S256x256 [1, 0] (W6 m ρ c main_arg7) transposes_S256x256_S256x256_1_0 := by
  show StableHlo.after hostOps1_2 (W6 m ρ c) (Proc.devRef .tc main_v128) = _
  generalize W6 m ρ c = U
  after_results_simp

/-- The first matrix of the two-layer network, transposed. -/
theorem W7_v129 (c : Dev nD) : W7 m ρ c main_v129
    = transpose S256x1024 [1, 0] (W6 m ρ c main_arg10) transposes_S1024x256_S256x1024_1_0 := by
  show StableHlo.after hostOps1_2 (W6 m ρ c) (Proc.devRef .tc main_v129) = _
  generalize W6 m ρ c = U
  after_results_simp

/-- The second matrix of the two-layer network, transposed. -/
theorem W7_v130 (c : Dev nD) : W7 m ρ c main_v130
    = transpose S1024x256 [1, 0] (W6 m ρ c main_arg12) transposes_S256x1024_S1024x256_1_0 := by
  show StableHlo.after hostOps1_2 (W6 m ρ c) (Proc.devRef .tc main_v130) = _
  generalize W6 m ρ c = U
  after_results_simp

end Cert.KernelIdeal.Val

end
-- ==== Proof.KernelValue.lean ====
/- The kernel's result as one function of its arguments. -/
module

public import proofs.«01_k».proof.Proof.Region1
public import proofs.«01_k».proof.Proof.HostPre
public import proofs.«01_k».proof.Proof.HostMid

@[expose] public section

noncomputable section

namespace Cert.KernelIdeal.Val

open Cert.KernelIdeal Cert.KernelIdeal.Gen
open Idealize.ShloMosaic hiding ix1 ix2 ix3 eq_ix2
open Idealize.ShloMosaic.ValueIdx Idealize.ShloMosaic.TcCoe Idealize.SL.Sem

/-- The rectified scores of the edges. -/
def edgeArr (feat : FVec Ideal S10000x256 .f32) (e : IVec S2x160000 32) (ah at' : FVec Ideal S1x8x32 .f32) : FVec Ideal S160000x8 .f32 :=
  leakyArr (edgeScore (scoreArr feat (attnMat ah)) (scoreArr feat (attnMat at')) (srcRow e) (dstRow e))

/-- The kernel's result. -/
def kernelOut (x : FVec Ideal S10000x256 .f32) (e : IVec S2x160000 32) (g b : FVec Ideal S256 .f32) (w : FVec Ideal S256x256 .f32)
    (ah at' : FVec Ideal S1x8x32 .f32) (wo : FVec Ideal S256x256 .f32) (g' b' : FVec Ideal S256 .f32) (w1 : FVec Ideal S1024x256 .f32)
    (b1 : FVec Ideal S1024 .f32) (w2 : FVec Ideal S256x1024 .f32) (b2 : FVec Ideal S256 .f32) : FVec Ideal S10000x256 .f32 :=
  let feat := featArr x g b (transpose S256x256 [1, 0] w transposes_S256x256_S256x256_1_0)
  outArr
    (hops (broadcastInDim S160000x8x1 ![0, 1] bcast_S160000x8_S160000x8x1_0_1 (weightArr (edgeArr feat e ah at') (dstRow e)))
      feat (srcRow e) (dstRow e))
    x (transpose S256x256 [1, 0] wo transposes_S256x256_S256x256_1_0) g' b'
    (transpose S256x1024 [1, 0] w1 transposes_S1024x256_S256x1024_1_0) b1
    (transpose S1024x256 [1, 0] w2 transposes_S256x1024_S1024x256_1_0) b2

variable (m : (ℓ : Loc nD τ sig) → Buf (Elt Ideal) ℓ) (ρ : Dev nD → PrngReg)

/-- The first launch's projected features. -/
theorem W4_feat (c : Dev nD) : W4 m ρ c main_v35_0
    = featArr (m ((c : Thread nD τ).loc main_arg0)) (m ((c : Thread nD τ).loc main_arg2)) (m ((c : Thread nD τ).loc main_arg3))
        (transpose S256x256 [1, 0] (m ((c : Thread nD τ).loc main_arg4)) transposes_S256x256_S256x256_1_0) := by
  refine (W4_arr m ρ c 6).trans ((dat0_feat (V3 m ρ) c).trans ?_)
  have h0 := W3_args m ρ c main_arg0 (by decide)
  have h2 := W3_args m ρ c main_arg2 (by decide)
  have h3 := W3_args m ρ c main_arg3 (by decide)
  dsimp only [V3]
  rw [h0, h2, h3, W3_v34]

/-- The first launch's first scores. -/
theorem W4_eh (c : Dev nD) : W4 m ρ c main_v35_1 = scoreArr (W4 m ρ c main_v35_0) (attnMat (m ((c : Thread nD τ).loc main_arg5))) := by
  refine (W4_arr m ρ c 7).trans ((dat0_eh (V3 m ρ) c).trans ?_)
  rw [← dat0_feat (V3 m ρ) c, ← W4_arr m ρ c 6]
  exact congrArg (scoreArr _) (W3_v18 m ρ c)

/-- The first launch's second scores. -/
theorem W4_et (c : Dev nD) : W4 m ρ c main_v35_2 = scoreArr (W4 m ρ c main_v35_0) (attnMat (m ((c : Thread nD τ).loc main_arg6))) := by
  refine (W4_arr m ρ c 8).trans ((dat0_et (V3 m ρ) c).trans ?_)
  rw [← dat0_feat (V3 m ρ) c, ← W4_arr m ρ c 6]
  exact congrArg (scoreArr _) (W3_v33 m ρ c)

/-- The kernel's result, read off. -/
theorem W8_out (c : Dev nD) : W8 m ρ c main_v131
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (W8_arr m ρ c 9).trans ((dat1_out (V7 m ρ) c).trans ?_)
  have a0 := W7_args m ρ c main_arg0 (by decide)
  have a8 := W7_args m ρ c main_arg8 (by decide)
  have a9 := W7_args m ρ c main_arg9 (by decide)
  have a11 := W7_args m ρ c main_arg11 (by decide)
  have a13 := W7_args m ρ c main_arg13 (by decide)
  have a7 := W6_args m ρ c main_arg7 (by decide)
  have a10 := W6_args m ρ c main_arg10 (by decide)
  have a12 := W6_args m ρ c main_arg12 (by decide)
  have a1 := W4_args m ρ c main_arg1 (by decide)
  have v37 : W6 m ρ c main_v37 = _ := (W6_of m ρ c main_v37 (by decide)).trans (W5_v37 m ρ c)
  have v39 : W6 m ρ c main_v39 = _ := (W6_of m ρ c main_v39 (by decide)).trans (W5_v39 m ρ c)
  have v35 : W6 m ρ c main_v35_0 = _ := ((W6_of m ρ c main_v35_0 (by decide)).trans (W5_of m ρ c main_v35_0 (by decide))).trans (W4_feat m ρ c)
  dsimp only [V7]
  rw [a0, a8, a9, a11, a13, W7_v127, W7_v128, W7_v129, W7_v130, a7, a10, a12, v35, W6_v59, v37, v39, a1, W4_eh, W4_et, W4_feat]
  rfl

end Cert.KernelIdeal.Val

end
-- ==== Proof.RefRows.lean ====
/- The reference's dense stages, row by row: the projected features, the two scores of every node, and the finished rows,
   as the same functions of the arguments that the kernel's launches compute. -/
module

public import proofs.«01_k».proof.Proof.Gen.ReferenceIdeal.Read
public import proofs.«01_k».proof.Proof.KernelValue

@[expose] public section

noncomputable section

namespace Cert.ReferenceIdeal.Val

open Cert.ReferenceIdeal Cert.ReferenceIdeal.Read Cert.Math
open Cert.KernelIdeal.Val (featArr scoreArr outArr attnMat headOf attnMat_apply)
open Idealize.ShloMosaic hiding ix1 ix2 ix3 eq_ix2
open Idealize.ShloMosaic.ValueIdx

/-- Two indices of rank two agree when both coordinates do. -/
theorem ext2 {a b : Nat} {i j : (⟨2, ![a, b]⟩ : Shape).Idx} (h0 : i 0 = j 0) (h1 : i 1 = j 1) : i = j :=
  funext fun k => match k with
    | ⟨0, _⟩ => h0
    | ⟨1, _⟩ => h1

/-- Two indices of rank one agree when their coordinate does. -/
theorem ext1 {a : Nat} {i j : (⟨1, ![a]⟩ : Shape).Idx} (h0 : i 0 = j 0) : i = j :=
  funext fun k => match k with
    | ⟨0, _⟩ => h0

/-- Two indices of rank three agree when all coordinates do. -/
theorem ext3 {a b c : Nat} {i j : (⟨3, ![a, b, c]⟩ : Shape).Idx} (h0 : i 0 = j 0) (h1 : i 1 = j 1) (h2 : i 2 = j 2) : i = j :=
  funext fun k => match k with
    | ⟨0, _⟩ => h0
    | ⟨1, _⟩ => h1
    | ⟨2, _⟩ => h2

/-! ## The normalization -/

/-- The mean of a row. -/
theorem mean_apply (x : FVec Ideal S10000x256 .f32) (n : Fin 10000) :
    val_main_v7 (F := Ideal) x (ix2 n 0) = rowMean fun k => x (ix2 n k) := by
  rw [val_main_v7_apply, val_main_v5_apply, val_main_v4_apply, val_main_v6_apply, val_main_cst_0_apply, val_main_cst_apply]
  show Ideal.div (Ideal.ofBits .f32 0x00000000#32 + _) c256 = _
  rw [Ideal.ofBits_zero_f32, zero_add]
  exact congrArg (Ideal.div · c256) (Finset.sum_congr rfl fun k _ => congrArg x (ext2 rfl rfl))

/-- The variance of a row. -/
theorem var_apply (x : FVec Ideal S10000x256 .f32) (n : Fin 10000) :
    val_main_v14 (F := Ideal) x (ix2 n 0) = rowVar fun k => x (ix2 n k) := by
  rw [val_main_v14_apply, val_main_v12_apply, val_main_v11_apply, val_main_v13_apply, val_main_cst_2_apply, val_main_cst_1_apply]
  show Ideal.div (Ideal.ofBits .f32 0x00000000#32 + _) c256 = _
  rw [Ideal.ofBits_zero_f32, zero_add]
  refine congrArg (Ideal.div · c256) (Finset.sum_congr rfl fun k _ => ?_)
  have hi : idx_main_v11 (idx_main_v12 (ix2 n 0)) k = ix2 n k := ext2 rfl rfl
  have hj : idx_main_v8 (ix2 n k) = ix2 n 0 := ext2 rfl rfl
  rw [hi, val_main_v10_apply, val_main_v9_apply, val_main_v8_apply, hj, mean_apply]
  rfl

/-- The normalized row, scaled and shifted. -/
theorem ln_apply (x : FVec Ideal S10000x256 .f32) (g b : FVec Ideal S256 .f32) (n : Fin 10000) (c : Fin 256) :
    val_main_v27 (F := Ideal) x g b (ix2 n c) = lnRow (fun k => x (ix2 n k)) (fun k => g (ix1 k)) (fun k => b (ix1 k)) c := by
  have h15 : idx_main_v15 (ix2 n c) = ix2 n 0 := ext2 rfl rfl
  have h20 : idx_main_v20 (ix2 n c) = ix2 n 0 := ext2 rfl rfl
  have hg : idx_main_v22 (idx_main_v23 (ix2 n c)) = ix1 c := ext1 rfl
  have hb : idx_main_v25 (idx_main_v26 (ix2 n c)) = ix1 c := ext1 rfl
  rw [val_main_v27_apply, val_main_v24_apply, val_main_v21_apply, val_main_v16_apply, val_main_v15_apply, val_main_v20_apply,
    val_main_v19_apply, val_main_v18_apply, val_main_v17_apply, val_main_cst_3_apply, val_main_v23_apply, val_main_v22_apply,
    val_main_v26_apply, val_main_v25_apply, h15, h20, hg, hb, mean_apply, var_apply]
  exact lnRow_div (fun k => x (ix2 n k)) (fun k => g (ix1 k)) (fun k => b (ix1 k)) c

/-! ## The projection and the scores -/

/-- The projected features. -/
theorem feat_eq (x : FVec Ideal S10000x256 .f32) (g b : FVec Ideal S256 .f32) (w : FVec Ideal S256x256 .f32) :
    val_main_v29 (F := Ideal) x g b w = featArr x g b (val_main_v28 (F := Ideal) w) := by
  funext i
  obtain ⟨n, c, rfl⟩ : ∃ (n : Fin 10000) (c : Fin 256), i = ix2 n c := ⟨i 0, i 1, eq_ix2 i⟩
  rw [val_main_v29_apply]
  show _ = ∑ k, lnRow (fun l => x (ix2 n l)) (fun l => g (ix1 l)) (fun l => b (ix1 l)) k * val_main_v28 (F := Ideal) w (ix2 k c)
  refine Finset.sum_congr rfl fun k _ => ?_
  have hl : lidx_main_v29 (ix2 n c) k = ix2 n k := ext2 rfl rfl
  have hr : ridx_main_v29 (ix2 n c) k = ix2 k c := ext2 rfl rfl
  rw [hl, hr, ln_apply]

/-- A sum over the channels against a vector that is zero outside one head is a sum over that head's channels. -/
theorem head_sum (T : Fin 256 → EReal) (A : Fin 8 → Fin 32 → EReal) (h : Fin 8) :
    (∑ c, T c * (if headOf c = h then A (headOf c) ⟨c.val % 32, Nat.mod_lt _ (by decide)⟩ else 0))
      = ∑ d : Fin 32, T ⟨h.val * 32 + d.val, by omega⟩ * A h d := by
  rw [← (finProdFinEquiv : Fin 8 × Fin 32 ≃ Fin 256).sum_comp, Fintype.sum_prod_type, Finset.sum_eq_single h]
  · refine Finset.sum_congr rfl fun d _ => ?_
    have hv : ((finProdFinEquiv (h, d) : Fin 256)).val = d.val + 32 * h.val := rfl
    have he : headOf (finProdFinEquiv (h, d)) = h := Fin.ext (by show (d.val + 32 * h.val) / 32 = h.val; omega)
    rw [if_pos he, he]
    congr 2
    · exact Fin.ext (by show d.val + 32 * h.val = h.val * 32 + d.val; omega)
    · exact Fin.ext (by show (d.val + 32 * h.val) % 32 = d.val; omega)
  · intro h' _ hne
    refine Finset.sum_eq_zero fun d _ => ?_
    have he : headOf (finProdFinEquiv (h', d)) = h' := Fin.ext (by show (d.val + 32 * h'.val) / 32 = h'.val; omega)
    rw [if_neg (by rw [he]; exact hne), mul_zero]
  · exact fun hn => absurd (Finset.mem_univ _) hn

/-- A score against an attention vector, one head's channels at a time. -/
theorem score_sum (f : FVec Ideal S10000x256 .f32) (a : FVec Ideal S1x8x32 .f32) (n : Fin 10000) (h : Fin 8) :
    scoreArr f (attnMat a) (ix2 n h)
      = ∑ d : Fin 32, Ideal.tanh (f (ix2 n ⟨h.val * 32 + d.val, by omega⟩)) * a (ix3 0 h d) := by
  show (∑ c, Ideal.tanh (f (ix2 n c)) * attnMat a (ix2 c h)) = _
  rw [Finset.sum_congr rfl fun c _ => congrArg (_ * ·) (attnMat_apply a c h)]
  exact head_sum (fun c => Ideal.tanh (f (ix2 n c))) (fun h d => a (ix3 0 h d)) h

/-- The first scores. -/
theorem eh_apply (x : FVec Ideal S10000x256 .f32) (g b : FVec Ideal S256 .f32) (w : FVec Ideal S256x256 .f32)
    (a : FVec Ideal S1x8x32 .f32) (n : Fin 10000) (h : Fin 8) :
    val_main_v35 (F := Ideal) x g b w a (ix3 n h 0) = scoreArr (val_main_v29 (F := Ideal) x g b w) (attnMat a) (ix2 n h) := by
  rw [score_sum, val_main_v35_apply, val_main_v34_apply, val_main_cst_4_apply]
  show Ideal.ofBits .f32 0x00000000#32 + _ = _
  rw [Ideal.ofBits_zero_f32, zero_add]
  refine Finset.sum_congr rfl fun d _ => ?_
  rw [val_main_v33_apply, val_main_v31_apply, val_main_v30_apply, val_main_v32_apply]
  have h1 : idx_main_v30 (idx_main_v34 (idx_main_v35 (ix3 n h 0)) d) = ix2 n ⟨h.val * 32 + d.val, by omega⟩ :=
    ext2 (Fin.ext (by show ((n.val * 8 + h.val) * 32 + d.val) / 256 = n.val; omega))
      (Fin.ext (by show ((n.val * 8 + h.val) * 32 + d.val) % 256 = h.val * 32 + d.val; omega))
  have h2 : idx_main_v32 (idx_main_v34 (idx_main_v35 (ix3 n h 0)) d) = ix3 0 h d := ext3 rfl rfl rfl
  rw [h1, h2]
  rfl

/-- The second scores are the same function of their own vector. -/
theorem et_eq (x : FVec Ideal S10000x256 .f32) (g b : FVec Ideal S256 .f32) (w : FVec Ideal S256x256 .f32)
    (a : FVec Ideal S1x8x32 .f32) : val_main_v39 (F := Ideal) x g b w a = val_main_v35 (F := Ideal) x g b w a := rfl

/-! ## The finished rows -/

section Out
variable (x : FVec Ideal S10000x256 .f32) (e : IVec S2x160000 32) (g b : FVec Ideal S256 .f32) (w : FVec Ideal S256x256 .f32)
  (ah at' : FVec Ideal S1x8x32 .f32) (wo : FVec Ideal S256x256 .f32) (g' b' : FVec Ideal S256 .f32) (w1 : FVec Ideal S1024x256 .f32)
  (b1 : FVec Ideal S1024 .f32) (w2 : FVec Ideal S256x1024 .f32) (b2 : FVec Ideal S256 .f32)

/-- The rows after the output projection and the residual. -/
theorem res_apply (n : Fin 10000) (c : Fin 256) :
    val_main_v156 (F := Ideal) x e g b w ah at' wo (ix2 n c)
      = resRow (fun k => val_main_v153 (F := Ideal) x e g b w ah at' (ix2 n k)) (fun k => x (ix2 n k))
          (fun k c => val_main_v154 (F := Ideal) wo (ix2 k c)) c := by
  rw [val_main_v156_apply, val_main_v155_apply]
  show (x (ix2 n c) : EReal) + _ = _
  rw [add_comm]
  unfold resRow
  refine congrArg (· + x (ix2 n c)) (Finset.sum_congr rfl fun k _ => ?_)
  have hl : lidx_main_v155 (ix2 n c) k = ix2 n k := ext2 rfl rfl
  have hr : ridx_main_v155 (ix2 n c) k = ix2 k c := ext2 rfl rfl
  rw [hl, hr]

/-- The second normalization is the first one's function. -/
theorem ln2_eq : val_main_v180 (F := Ideal) x e g b w ah at' wo g' b'
    = val_main_v27 (F := Ideal) (val_main_v156 (F := Ideal) x e g b w ah at' wo) g' b' := rfl

/-- The hidden layer. -/
theorem hid_apply (n : Fin 10000) (j : Fin 1024) :
    val_main_v187 (F := Ideal) x e g b w ah at' wo g' b' w1 b1 (ix2 n j)
      = hidRow (fun k => val_main_v156 (F := Ideal) x e g b w ah at' wo (ix2 n k)) (fun k => g' (ix1 k)) (fun k => b' (ix1 k))
          (fun k j => val_main_v181 (F := Ideal) w1 (ix2 k j)) (fun j => b1 (ix1 j)) j := by
  rw [val_main_v187_apply, val_main_v185_apply, val_main_v182_apply, val_main_v184_apply, val_main_v183_apply,
    val_main_v186_apply, val_main_cst_41_apply, ln2_eq]
  have hb : idx_main_v183 (idx_main_v184 (ix2 n j)) = ix1 j := ext1 rfl
  rw [hb]
  refine congrArg₂ max (congrArg (· + _) (Finset.sum_congr rfl fun k _ => ?_)) Ideal.ofBits_zero_f32
  have hl : lidx_main_v182 (ix2 n j) k = ix2 n k := ext2 rfl rfl
  have hr : ridx_main_v182 (ix2 n j) k = ix2 k j := ext2 rfl rfl
  rw [hl, hr, ln_apply]

/-- Adding a sum with its bias is adding the sum and then the bias. -/
theorem reassoc (r s b t : EReal) (h : s = t) : r + (s + b) = r + t + b := by
  rw [h, add_assoc]

/-- The reference's result. -/
theorem out_eq :
    val_main_v193 (F := Ideal) x e g b w ah at' wo g' b' w1 b1 w2 b2
      = outArr (val_main_v153 (F := Ideal) x e g b w ah at') x (val_main_v154 (F := Ideal) wo) g' b' (val_main_v181 (F := Ideal) w1) b1
          (val_main_v188 (F := Ideal) w2) b2 := by
  funext i
  obtain ⟨n, c, rfl⟩ : ∃ (n : Fin 10000) (c : Fin 256), i = ix2 n c := ⟨i 0, i 1, eq_ix2 i⟩
  have hres : (fun k => val_main_v156 (F := Ideal) x e g b w ah at' wo (ix2 n k))
      = resRow (fun k => val_main_v153 (F := Ideal) x e g b w ah at' (ix2 n k)) (fun k => x (ix2 n k))
          (fun k c => val_main_v154 (F := Ideal) wo (ix2 k c)) := funext fun k => res_apply x e g b w ah at' wo n k
  have hb : idx_main_v190 (idx_main_v191 (ix2 n c)) = ix1 c := ext1 rfl
  rw [val_main_v193_apply, val_main_v192_apply, val_main_v189_apply, val_main_v191_apply, val_main_v190_apply, hb, res_apply]
  show (_ : EReal) + (_ + b2 (ix1 c)) = _
  refine reassoc _ _ _ _ (Finset.sum_congr rfl fun j _ => ?_)
  have hl : lidx_main_v189 (ix2 n c) j = ix2 n j := ext2 rfl rfl
  have hr : ridx_main_v189 (ix2 n c) j = ix2 j c := ext2 rfl rfl
  rw [hl, hr, hid_apply, hres]

end Out

end Cert.ReferenceIdeal.Val

end
-- ==== Proof.RefEdges.lean ====
/- The reference's edge stage: with finite attention vectors, its softmax shifted by the maximum of every segment is the
   kernel's unshifted one at every edge that enters a node, and the three hops that follow, which such edges alone enter, are
   the kernel's. An end point out of range is read as both programs read it: a gather takes the nearest row (a negative one
   counted from the end), a scatter drops the edge. -/
module

public import proofs.«01_k».proof.Proof.Gen.ReferenceIdeal.Read
public import proofs.«01_k».proof.Proof.KernelValue
public import proofs.«01_k».proof.Proof.RefRows

@[expose] public section

noncomputable section

namespace Cert.ReferenceIdeal.Val

open Cert.ReferenceIdeal Cert.ReferenceIdeal.Gen Cert.ReferenceIdeal.Read Cert.Math Cert.Index
open Cert.KernelIdeal.Val
open Idealize.ShloMosaic hiding ix1 ix2 ix3 ix4 eq_ix2 eq_ix3 eq_ix4
open Idealize.ShloMosaic.ValueIdx

/-! ## End points as rows -/

/-- The row that a gather reads for an end point. -/
def rowOf (i : IVec S160000 32) (k : Fin 160000) : Fin 10000 :=
  ⟨min (wrapIdx i (ix2 k 0)).toInt.toNat (10000 - 1), by omega⟩

/-- The gathers read the rows so named. -/
theorem names_wrap (i : IVec S160000 32) : Names (wrapIdx i) (rowOf i) := fun _ => rfl

/-- An edge enters a node: its end point is the node's number. -/
abbrev Enters (i : IVec S160000 32) (n : Fin 10000) (k : Fin 160000) : Prop := Lands (asIdx i) n k

/-- An index column at an edge. -/
theorem asIdx_apply (i : IVec S160000 32) (k : Fin 160000) : asIdx i (ix2 k 0) = i (ix1 k) :=
  broadcastInDim_apply _ _ i (ix2 k 0) (ix1 k) fun a => match a with
    | ⟨0, _⟩ => by show k.val = if (160000 : Nat) = 1 then 0 else k.val; rw [if_neg (by decide)]

/-- The end point of an edge that enters a node. -/
theorem enters_val {i : IVec S160000 32} {n : Fin 10000} {k : Fin 160000} (hk : Enters i n k) :
    (i (ix1 k)).toInt = (n.val : Int) := (congrArg BitVec.toInt (asIdx_apply i k)).symm.trans hk

/-- For an edge that enters a node, a gather reads that node's row: its end point is not negative. -/
theorem rowOf_enters {i : IVec S160000 32} {n : Fin 10000} {k : Fin 160000} (hk : Enters i n k) : rowOf i k = n := by
  have hv := enters_val hk
  have hw : wrapIdx i (ix2 k 0) = i (ix1 k) := by
    refine (asIdx_apply _ k).trans ?_
    show (if BitVec.ofBool (decide ((i (ix1 k)).toInt < (0#32).toInt)) = 1 then _ else i (ix1 k)) = i (ix1 k)
    have h0 : (0#32).toInt = 0 := by decide
    rw [h0, decide_eq_false (by omega)]
    exact if_neg (by decide)
  refine Fin.ext ?_
  show min (wrapIdx i (ix2 k 0)).toInt.toNat (10000 - 1) = n.val
  have := n.isLt
  rw [hw, hv]
  omega

/-! ## A maximum over a segment is a number -/

/-- A maximum from the bottom over elements none of which is the top, one of which is above the bottom, is a real number. -/
theorem reduceMax_real {s t u : Shape} {axes : List (Fin s.rank)} (x : FVec Ideal s .f32) (init : FVec Ideal u .f32)
    (h : s.ReducesTo axes t) (hu : 0 < u.numel) (hinit : ∀ i, init i = (⊥ : EReal)) (htop : ∀ i, x i ≠ (⊤ : EReal))
    (j : t.Idx) (i : s.Idx) (hi : h.drop i = j) (hx : x i ≠ (⊥ : EReal)) :
    ∃ r : ℝ, Host.reduce FloatOps.maximumf x init h hu j = (r : EReal) := by
  unfold Host.reduce
  rw [hinit]
  refine real_of_ne (fun hb => hx ?_) (foldl_max_ne_top _ (fun n => x (s.rowMajor.symm n)) (fun _ => htop _) _ bot_ne_top)
  have hmem : s.rowMajor i ∈ (List.finRange s.numel).filter fun n => h.drop (s.rowMajor.symm n) = j := by
    rw [List.mem_filter]
    exact ⟨List.mem_finRange _, by rw [Equiv.symm_apply_apply]; exact decide_eq_true hi⟩
  have hle := (le_foldl_max _ (fun n => (x (s.rowMajor.symm n) : EReal)) ⊥).2 _ hmem
  rw [Equiv.symm_apply_apply] at hle
  exact le_bot_iff.mp (hle.trans (le_of_eq hb))

/-! ## The scores -/

section Edges
variable (x : FVec Ideal S10000x256 .f32) (e : IVec S2x160000 32) (g b : FVec Ideal S256 .f32) (w : FVec Ideal S256x256 .f32)
  (ah at' : FVec Ideal S1x8x32 .f32)

/-- The attention score of a node is a real number when its vector is. -/
theorem score_real (f : FVec Ideal S10000x256 .f32) (a : FVec Ideal S1x8x32 .f32)
    (ha : ∀ i, ∃ r : ℝ, a i = (r : EReal)) (n : Fin 10000) (h : Fin 8) :
    ∃ r : ℝ, scoreArr f (attnMat a) (ix2 n h) = (r : EReal) := by
  rw [score_sum]
  refine sum_real _ _ fun d => ?_
  obtain ⟨p, hp⟩ := tanh_real (f (ix2 n ⟨h.val * 32 + d.val, by omega⟩))
  obtain ⟨q, hq⟩ := ha (ix3 0 h d)
  exact ⟨p * q, by rw [hp, hq, EReal.coe_mul]⟩

/-- The kernel's edge score at an edge and a head, before the rectifier. -/
theorem edgeScore_apply (eh et : FVec Ideal S10000x8 .f32) (src dst : IVec S160000 32) (k : Fin 160000) (h : Fin 8) :
    edgeScore eh et src dst (ix2 k h) = (eh (ix2 (rowOf src k) h) + et (ix2 (rowOf dst k) h) : EReal) := by
  show (Host.gather _ eh (wrapIdx src) (ix2 k h) + Host.gather _ et (wrapIdx dst) (ix2 k h) : EReal) = _
  exact congrArg₂ (fun p q : EReal => p + q) (gather2_apply _ eh _ _ (names_wrap src) k h)
    (gather2_apply _ et _ _ (names_wrap dst) k h)

/-- The leaky rectifier of one score. -/
def leaky (v : EReal) : EReal :=
  Scalar.select (FloatOps.cmpf (F := Ideal) (φ := .f32) .ogt v (Ideal.ofBits .f32 0x00000000#32)) v (cSlope * v)

/-- The rectifier keeps real numbers real. -/
theorem leaky_real {v : EReal} (hv : ∃ r : ℝ, v = (r : EReal)) : ∃ r : ℝ, leaky v = (r : EReal) := by
  unfold leaky Scalar.select
  split
  · exact hv
  · obtain ⟨p, hp⟩ := cSlope_real
    obtain ⟨q, hq⟩ := hv
    exact ⟨p * q, by rw [hp, hq, EReal.coe_mul]⟩

/-- The kernel's rectified scores are real numbers when the attention vectors are. -/
theorem edge_real (f : FVec Ideal S10000x256 .f32)
    (hh : ∀ i, ∃ r : ℝ, ah i = (r : EReal)) (ht : ∀ i, ∃ r : ℝ, at' i = (r : EReal)) (k : Fin 160000) (h : Fin 8) :
    ∃ r : ℝ, edgeArr f e ah at' (ix2 k h) = (r : EReal) := by
  refine leaky_real (v := edgeScore (scoreArr f (attnMat ah)) (scoreArr f (attnMat at')) (srcRow e) (dstRow e) (ix2 k h)) ?_
  rw [edgeScore_apply]
  obtain ⟨p, hp⟩ := score_real f ah hh (rowOf (srcRow e) k) h
  obtain ⟨q, hq⟩ := score_real f at' ht (rowOf (dstRow e) k) h
  exact ⟨p + q, by rw [hp, hq, EReal.coe_add]⟩

/-- The reference's raw score at an edge and a head. -/
theorem raw_apply (k : Fin 160000) (h : Fin 8) :
    val_main_v54 (F := Ideal) x e g b w ah at' (ix3 k h 0)
      = edgeScore (scoreArr (val_main_v29 (F := Ideal) x g b w) (attnMat ah))
          (scoreArr (val_main_v29 (F := Ideal) x g b w) (attnMat at')) (srcRow e) (dstRow e) (ix2 k h) := by
  rw [edgeScore_apply, ← eh_apply x g b w ah, ← eh_apply x g b w at', ← et_eq x g b w at',
    val_main_v54_apply]
  show (val_main_v46 (F := Ideal) x e g b w ah (ix3 k h 0) + val_main_v53 (F := Ideal) x e g b w at' (ix3 k h 0) : EReal) = _
  exact congrArg₂ (fun p q : EReal => p + q)
    (gather3_apply _ (val_main_v35 (F := Ideal) x g b w ah) _ _ (names_wrap (srcRow e)) k h 0)
    (gather3_apply _ (val_main_v39 (F := Ideal) x g b w at') _ _ (names_wrap (dstRow e)) k h 0)

/-- The reference's rectified score is the kernel's. -/
theorem edge_apply (k : Fin 160000) (h : Fin 8) :
    val_main_v59 (F := Ideal) x e g b w ah at' (ix3 k h 0)
      = edgeArr (val_main_v29 (F := Ideal) x g b w) e ah at' (ix2 k h) := by
  show leaky (val_main_v54 (F := Ideal) x e g b w ah at' (ix3 k h 0)) = leaky (edgeScore _ _ _ _ (ix2 k h))
  exact congrArg leaky (raw_apply x e g b w ah at' k h)

/-! ## The shift -/

/-- The masked score at a node, an edge and a head. -/
theorem masked_apply (n : Fin 10000) (k : Fin 160000) (h : Fin 8) :
    val_main_v68 (F := Ideal) x e g b w ah at' (ix4 n k h 0)
      = Scalar.select (IntOp.cmpi .eq (dstRow e (ix1 k)) (BitVec.ofNat 32 n.val))
          (val_main_v59 (F := Ideal) x e g b w ah at' (ix3 k h 0)) (⊥ : EReal) := by
  rw [val_main_v68_apply, val_main_call1_v1_apply, val_main_v66_apply, val_main_v65_apply, val_main_v63_apply,
    val_main_v60_apply, val_main_v64_apply, val_main_v62_apply, val_main_v61_apply, val_main_call1_v2_apply,
    val_main_v67_apply, val_main_call1_v3_apply, val_main_call1_v0_apply, val_main_cst_11_apply]
  refine congr (congr (congrArg Scalar.select ?_) ?_) ofBits_neg_inf
  · exact congrArg (fun q => IntOp.cmpi .eq (dstRow e q) (BitVec.ofNat 32 n.val)) (ext1 rfl)
  · exact congrArg (val_main_v59 (F := Ideal) x e g b w ah at') (ext3 rfl rfl rfl)

/-- The segment maximum at a node that an edge enters is a real number. -/
theorem max_real (hh : ∀ i, ∃ r : ℝ, ah i = (r : EReal)) (ht : ∀ i, ∃ r : ℝ, at' i = (r : EReal)) {n : Fin 10000}
    {k : Fin 160000} (hk : Enters (dstRow e) n k) (h : Fin 8) :
    ∃ r : ℝ, val_main_v69 (F := Ideal) x e g b w ah at' (ix3 n h 0) = (r : EReal) := by
  have hreal : ∀ k h, ∃ r : ℝ, val_main_v59 (F := Ideal) x e g b w ah at' (ix3 k h 0) = (r : EReal) := fun k h => by
    rw [edge_apply x e g b w ah at']
    exact edge_real e ah at' _ hh ht k h
  refine reduceMax_real (val_main_v68 (F := Ideal) x e g b w ah at') _ _ _ (fun _ => ofBits_neg_inf) (fun i => ?_) _
    (ix4 n k h 0) ?_ ?_
  · obtain ⟨n, k, h, z, rfl⟩ : ∃ n k h z, i = ix4 n k h z := ⟨_, _, _, _, eq_ix4 i⟩
    obtain rfl : z = 0 := Subsingleton.elim _ _
    rw [masked_apply]
    obtain ⟨r, hx⟩ := hreal k h
    unfold Scalar.select
    split
    · rw [hx]; exact EReal.coe_ne_top r
    · exact bot_ne_top
  · exact ext3 rfl rfl rfl
  · rw [masked_apply]
    obtain ⟨r, hx⟩ := hreal k h
    have hd : dstRow e (ix1 k) = BitVec.ofNat 32 n.val := by
      apply BitVec.eq_of_toInt_eq
      rw [enters_val hk, BitVec.toInt_ofNat']
      have := n.isLt
      rw [Int.bmod_eq_of_le] <;> omega
    have hc : IntOp.cmpi .eq (dstRow e (ix1 k)) (BitVec.ofNat 32 n.val) = 1 := by
      rw [← hd]
      show BitVec.ofBool (dstRow e (ix1 k) == dstRow e (ix1 k)) = 1
      rw [beq_self_eq_true]; rfl
    unfold Scalar.select
    rw [if_pos hc, hx]
    exact EReal.coe_ne_bot r

/-! ## The weights -/

/-- The host's exponential, element by element. -/
theorem exp_at {s : Shape} (x : FVec Ideal s .f32) (i : s.Idx) : Host.exp x i = Ideal.exp (x i) := rfl

/-- The host's quotient, element by element. -/
theorem div_at {s : Shape} (x y : FVec Ideal s .f32) (i : s.Idx) : Host.divf x y i = Ideal.div (x i) (y i) := rfl

/-- The host's negation, element by element. -/
theorem neg_at {s : Shape} (x : FVec Ideal s .f32) (i : s.Idx) : Host.negf x i = (-(x i) : EReal) := rfl

/-- The sum, element by element. -/
theorem add_at {s : Shape} (x y : FVec Ideal s .f32) (i : s.Idx) : addf x y i = (x i + y i : EReal) := rfl

/-- The difference, element by element. -/
theorem sub_at {s : Shape} (x y : FVec Ideal s .f32) (i : s.Idx) : subf x y i = (x i - y i : EReal) := rfl

/-- The product, element by element. -/
theorem mul_at {s : Shape} (x y : FVec Ideal s .f32) (i : s.Idx) : mulf x y i = (x i * y i : EReal) := rfl

/-- A guarded quotient depends on its sum and its guard alone. -/
theorem quot_at (a : EReal) {u v c d : EReal} (hu : u = v) (hc : c = d) (q : EReal) :
    Ideal.div a (u + c * q) = Ideal.div a (v + d * q) := by rw [hu, hc]

/-- A sum started from zero. -/
theorem zero_sum {z : EReal} (hz : z = 0) (v : EReal) : z + v = v := by rw [hz, zero_add]

/-- The kernel's weight at an edge that enters a node. -/
theorem weight_apply (s : FVec Ideal Cert.KernelIdeal.S160000x8 .f32) {dst : IVec S160000 32} {n : Fin 10000}
    {k : Fin 160000} (hk : Enters dst n k) (h : Fin 8) :
    weightArr s dst (ix2 k h)
      = Ideal.div (Ideal.exp (s (ix2 k h)))
          ((∑ k' ∈ Finset.univ.filter (Enters dst n), Ideal.exp (s (ix2 k' h))) + cGuard) := by
  unfold weightArr
  rw [div_at, exp_at, add_at]
  refine congrArg (Ideal.div (Ideal.exp (s (ix2 k h)))) (congrArg₂ (fun p q : EReal => p + q) ?_ rfl)
  refine (gather2_apply _ _ _ _ (names_wrap dst) k h).trans ?_
  rw [rowOf_enters hk]
  refine (scatter2_apply _ _ _ _ n h).trans ?_
  refine (zero_sum Ideal.ofBits_zero_f32 _).trans (Finset.sum_congr rfl fun k' _ => ?_)
  exact exp_at s (ix2 k' h)

/-- The reference's weight at an edge that enters a node, in terms of the node's segment maximum. -/
theorem shifted_apply {n : Fin 10000} {k : Fin 160000} (hk : Enters (dstRow e) n k) (h : Fin 8) :
    val_main_v101 (F := Ideal) x e g b w ah at' (ix3 k h 0)
      = Ideal.div (Ideal.exp (val_main_v59 (F := Ideal) x e g b w ah at' (ix3 k h 0)
            - val_main_v69 (F := Ideal) x e g b w ah at' (ix3 n h 0)))
          ((∑ k' ∈ Finset.univ.filter (Enters (dstRow e) n),
              Ideal.exp (val_main_v59 (F := Ideal) x e g b w ah at' (ix3 k' h 0)
                - val_main_v69 (F := Ideal) x e g b w ah at' (ix3 n h 0)))
            + cGuard * Ideal.exp (-(val_main_v69 (F := Ideal) x e g b w ah at' (ix3 n h 0)))) := by
  have hn := rowOf_enters hk
  have hm : ∀ k, val_main_v76 (F := Ideal) x e g b w ah at' (ix3 k h 0)
      = val_main_v69 (F := Ideal) x e g b w ah at' (ix3 (rowOf (dstRow e) k) h 0) := fun k =>
    gather3_apply _ (val_main_v69 (F := Ideal) x e g b w ah at') _ _ (names_wrap (dstRow e)) k h 0
  have hm' : val_main_v95 (F := Ideal) x e g b w ah at' (ix3 k h 0)
      = val_main_v69 (F := Ideal) x e g b w ah at' (ix3 (rowOf (dstRow e) k) h 0) :=
    gather3_apply _ (val_main_v69 (F := Ideal) x e g b w ah at') _ _ (names_wrap (dstRow e)) k h 0
  have hx : ∀ k, val_main_v78 (F := Ideal) x e g b w ah at' (ix3 k h 0)
      = Ideal.exp (val_main_v59 (F := Ideal) x e g b w ah at' (ix3 k h 0)
          - val_main_v69 (F := Ideal) x e g b w ah at' (ix3 (rowOf (dstRow e) k) h 0)) := fun k => by
    unfold val_main_v78 val_main_v77
    rw [exp_at, sub_at, hm k]
  have hs : val_main_v88 (F := Ideal) x e g b w ah at' (ix3 k h 0)
      = ∑ k' ∈ Finset.univ.filter (Enters (dstRow e) n),
          val_main_v78 (F := Ideal) x e g b w ah at' (ix3 k' h 0) := by
    refine (gather3_apply _ (val_main_v81 (F := Ideal) x e g b w ah at') _ _ (names_wrap (dstRow e)) k h 0).trans ?_
    rw [hn]
    refine ((scatter3_apply _ _ _ (val_main_v78 (F := Ideal) x e g b w ah at') n h).trans ?_)
    have hz : val_main_v79 (F := Ideal) (ix3 n h 0) = (0 : EReal) := by
      rw [val_main_v79_apply, val_main_cst_15_apply]
      exact Ideal.ofBits_zero_f32
    exact zero_sum hz _
  unfold val_main_v101 val_main_v100 val_main_v99 val_main_v97 val_main_v96
  rw [div_at, add_at, mul_at, exp_at, neg_at, val_main_v98_apply, val_main_cst_20_apply]
  rw [hs, hm', hx k, hn]
  exact quot_at _ (Finset.sum_congr rfl fun k' hk' => by rw [hx k', rowOf_enters (Finset.mem_filter.mp hk').2]) rfl _

/-- The kernel's weights with a last axis of one element, as its hops take them. -/
def column (a : FVec Ideal Cert.KernelIdeal.S160000x8 .f32) : FVec Ideal S160000x8x1 .f32 :=
  broadcastInDim S160000x8x1 ![0, 1] Cert.KernelIdeal.Gen.bcast_S160000x8_S160000x8x1_0_1 a

/-- Reading them. -/
theorem column_apply (a : FVec Ideal Cert.KernelIdeal.S160000x8 .f32) (k : Fin 160000) (h : Fin 8) :
    column a (ix3 k h 0) = a (ix2 k h) :=
  broadcastInDim_apply _ _ _ (ix3 k h 0) (ix2 k h) fun a => match a with
    | ⟨0, _⟩ => by show k.val = if (160000 : Nat) = 1 then 0 else k.val; rw [if_neg (by decide)]
    | ⟨1, _⟩ => by show h.val = if (8 : Nat) = 1 then 0 else h.val; rw [if_neg (by decide)]

/-- At an edge that enters a node the reference's weights are the kernel's. -/
theorem weights_eq (hh : ∀ i, ∃ r : ℝ, ah i = (r : EReal)) (ht : ∀ i, ∃ r : ℝ, at' i = (r : EReal)) {n : Fin 10000}
    {k : Fin 160000} (hk : Enters (dstRow e) n k) (h : Fin 8) :
    val_main_v101 (F := Ideal) x e g b w ah at' (ix3 k h 0)
      = column (weightArr (edgeArr (val_main_v29 (F := Ideal) x g b w) e ah at') (dstRow e)) (ix3 k h 0) := by
  rw [column_apply, weight_apply _ hk, shifted_apply x e g b w ah at' hk,
    softmax_shift (Finset.univ.filter (Enters (dstRow e) n))
      (fun k => val_main_v59 (F := Ideal) x e g b w ah at' (ix3 k h 0))
      (fun k => by
        show ∃ r : ℝ, val_main_v59 (F := Ideal) x e g b w ah at' (ix3 k h 0) = (r : EReal)
        rw [edge_apply x e g b w ah at']
        exact edge_real e ah at' _ hh ht k h) k _ (max_real x e g b w ah at' hh ht hk h)]
  simp only [edge_apply x e g b w ah at']

/-! ## The hops -/

/-- The messages summed at the nodes depend on those of the edges that enter a node alone: the scatter drops the others. -/
theorem gathered_congr (z : FVec Ideal S10000x8x32 .f32) {dst : IVec S160000 32} {m m' : FVec Ideal S160000x8x32 .f32}
    (hm : ∀ k h d n, Enters dst n k → m (ix3 k h d) = m' (ix3 k h d)) :
    Host.scatterAdd Cert.KernelIdeal.scatter_S10000x8x32_S160000x1_S160000x8x32_12_0_0_1 z (asIdx dst) m
      = Host.scatterAdd Cert.KernelIdeal.scatter_S10000x8x32_S160000x1_S160000x8x32_12_0_0_1 z (asIdx dst) m' :=
  scatter3_congr _ z (asIdx dst) m m' hm

/-- A hop depends on the weights of the edges that enter a node alone. -/
theorem hop_congr {a a' : FVec Ideal S160000x8x1 .f32} (f0 : FVec Ideal S10000x8x32 .f32) (src : IVec S160000 32)
    {dst : IVec S160000 32} (ha : ∀ n k, Enters dst n k → ∀ h, a (ix3 k h 0) = a' (ix3 k h 0))
    (f : FVec Ideal S10000x8x32 .f32) : hop a f0 src dst f = hop a' f0 src dst f := by
  have spread : ∀ (v : FVec Ideal S160000x8x1 .f32) (k : Fin 160000) (h : Fin 8) (d : Fin 32),
      broadcastInDim S160000x8x32 ![0, 1, 2] Cert.KernelIdeal.Gen.bcast_S160000x8x1_S160000x8x32_0_1_2 v (ix3 k h d)
        = v (ix3 k h 0) := fun v k h d =>
    broadcastInDim_apply _ _ v (ix3 k h d) (ix3 k h 0) fun a => match a with
      | ⟨0, _⟩ => by show k.val = if (160000 : Nat) = 1 then 0 else k.val; rw [if_neg (by decide)]
      | ⟨1, _⟩ => by show h.val = if (8 : Nat) = 1 then 0 else h.val; rw [if_neg (by decide)]
      | ⟨2, _⟩ => by show 0 = if (1 : Nat) = 1 then 0 else d.val; rw [if_pos rfl]
  unfold hop
  rw [gathered_congr _ (m' := mulf (Host.gather _ f (wrapIdx src)) (broadcastInDim S160000x8x32 ![0, 1, 2] _ a')) ?_]
  intro k h d n hk
  rw [mul_at, mul_at, spread, spread, ha n k hk h]

/-- So do three hops. -/
theorem hops_congr {a a' : FVec Ideal S160000x8x1 .f32} (feat : FVec Ideal S10000x256 .f32) (src : IVec S160000 32)
    {dst : IVec S160000 32} (ha : ∀ n k, Enters dst n k → ∀ h, a (ix3 k h 0) = a' (ix3 k h 0)) :
    hops a feat src dst = hops a' feat src dst := by
  unfold hops
  simp only [hop_congr _ src ha]

/-- The reference's three hops are the kernel's, of its own weights. -/
theorem hops_eq : val_main_v153 (F := Ideal) x e g b w ah at'
    = hops (val_main_v101 (F := Ideal) x e g b w ah at') (val_main_v29 (F := Ideal) x g b w) (srcRow e) (dstRow e) := rfl

/-- The reference's result is the kernel's function of the arguments. -/
theorem result_eq (hh : ∀ i, ∃ r : ℝ, ah i = (r : EReal)) (ht : ∀ i, ∃ r : ℝ, at' i = (r : EReal))
    (wo : FVec Ideal S256x256 .f32) (g' b' : FVec Ideal S256 .f32) (w1 : FVec Ideal S1024x256 .f32)
    (b1 : FVec Ideal S1024 .f32) (w2 : FVec Ideal S256x1024 .f32) (b2 : FVec Ideal S256 .f32) :
    val_main_v193 (F := Ideal) x e g b w ah at' wo g' b' w1 b1 w2 b2
      = kernelOut x e g b w ah at' wo g' b' w1 b1 w2 b2 := by
  rw [out_eq, hops_eq, hops_congr _ _ fun n k hk h => weights_eq x e g b w ah at' hh ht hk h, feat_eq]
  rfl

end Edges

end Cert.ReferenceIdeal.Val

end
-- ==== Proof.lean ====
/- The certificate's claims put together: the three frames, the preservation, and the equality of the idealized kernel with
   the idealized reference for finite attention vectors. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.RefEdges
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The precondition's operations are well formed. -/
theorem pre_facts : Cert.Pre_attention_finite.Facts := ⟨by decide⟩

/-! ## The precondition, read -/

/-- A flag that is set was computed from a true comparison. -/
theorem true_of_flag {b : Bool} (h : BitVec.ofBool b = 1#1) : b = true := by
  cases b
  · exact absurd h (by decide)
  · rfl

/-- The precondition's flags say that an attention weight is a real number. -/
theorem real_of_flag {x : EReal}
    (h : FloatOps.cmpf (F := Ideal) (φ := .f32) .olt (max x (-x)) (Ideal.ofBits .f32 0x7F800000#32) = 1#1) :
    ∃ r : ℝ, x = (r : EReal) := by
  rw [Cert.Math.ofBits_inf] at h
  exact Cert.Math.real_of_abs_lt (of_decide_eq_true (true_of_flag h))

/-! ## The frames -/

/-- The reference runs, leaves its arguments alone and ends quiescent. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-! ## The equality -/

/-- On finite attention vectors the idealized kernel and the idealized reference end with the same
    result. -/
theorem equal : Cert.algebraic_KernelIdeal_ReferenceIdeal_pre_attention_finite
    (hKernelIdeal := Cert.KernelIdeal.Gen.facts) (hReferenceIdeal := Cert.ReferenceIdeal.Gen.facts)
    (hPre_attention_finite := pre_facts) := by
  intro m g m' g' hpre hargs
  refine ⟨fun c => Cert.KernelIdeal.Gen.W8 m g c Cert.KernelIdeal.main_v131, ?_, ?_⟩
  · exact (θ_run Cert.KernelIdeal.defs _ _).mono (fun r h => h.1) (Cert.KernelIdeal.Val.run m g)
  · refine (θ_run Cert.ReferenceIdeal.defs _ _).mono (fun r h c => ⟨(h c).1.trans ?_, (h c).2⟩)
      (Cert.ReferenceIdeal.Value.run m' g')
    obtain ⟨p1, p2⟩ := hpre c
    obtain ⟨a0, a1, a2, a3, a4, a5, a6, a7, a8, a9, a10, a11, a12, a13⟩ := hargs c
    refine (Cert.ReferenceIdeal.Read.val_main_v193_eq (launchContents m' c)).trans ?_
    refine Eq.trans ?_ (Cert.KernelIdeal.Val.W8_out m g c).symm
    refine Eq.trans (b := Cert.ReferenceIdeal.Read.val_main_v193 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))) ?_ ?_
    · rw [← a0, ← a1, ← a2, ← a3, ← a4, ← a5, ← a6, ← a7, ← a8, ← a9, ← a10, ← a11, ← a12, ← a13]
    · exact Cert.ReferenceIdeal.Val.result_eq _ _ _ _ _ _ _ (fun i => real_of_flag (congrFun p1 i)) (fun i => real_of_flag (congrFun p2 i)) _ _ _ _ _ _ _

/-- Everything the certificate claims. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, equal⟩

end Cert.Proof

end
